-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Shared (m : (ℓ : Loc Cert.Shared.nD Cert.Shared.τ Cert.Shared.sig) → Buf (Elt Bits) ℓ) : Prop :=
  True

def Pre_SharedIdeal (m : (ℓ : Loc Cert.SharedIdeal.nD Cert.SharedIdeal.τ Cert.SharedIdeal.sig) → Buf (Elt Ideal) ℓ) : Prop :=
  True

def Pre_SharedReferenceIdeal (m : (ℓ : Loc Cert.SharedReferenceIdeal.nD Cert.SharedReferenceIdeal.τ Cert.SharedReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Shared [hShared : Cert.Shared.Facts] : Prop :=
  ∀ (m : (ℓ : Loc Cert.Shared.nD Cert.Shared.τ Cert.Shared.sig) → Buf (Elt Bits) ℓ) (g : Dev Cert.Shared.nD → PrngReg), Pre_Shared m →
    θ_run (Cert.Shared.defs (F := Bits)) (onTc (τ := Cert.Shared.τ) (Cert.Shared.main (F := Bits))) ⟨m, fun _ => 0, g⟩ (fun r => (∀ c : Dev Cert.Shared.nD,
      r.2.mem ((c.tc : Thread Cert.Shared.nD Cert.Shared.τ).loc Cert.Shared.main_arg0) = m ((c.tc : Thread Cert.Shared.nD Cert.Shared.τ).loc Cert.Shared.main_arg0)
      ∧ r.2.mem ((c.tc : Thread Cert.Shared.nD Cert.Shared.τ).loc Cert.Shared.main_arg1) = m ((c.tc : Thread Cert.Shared.nD Cert.Shared.τ).loc Cert.Shared.main_arg1)
      ∧ r.2.mem ((c.tc : Thread Cert.Shared.nD Cert.Shared.τ).loc Cert.Shared.main_arg2) = m ((c.tc : Thread Cert.Shared.nD Cert.Shared.τ).loc Cert.Shared.main_arg2)
      ∧ r.2.mem ((c.tc : Thread Cert.Shared.nD Cert.Shared.τ).loc Cert.Shared.main_arg3) = m ((c.tc : Thread Cert.Shared.nD Cert.Shared.τ).loc Cert.Shared.main_arg3)
      ∧ r.2.mem ((c.tc : Thread Cert.Shared.nD Cert.Shared.τ).loc Cert.Shared.main_arg4) = m ((c.tc : Thread Cert.Shared.nD Cert.Shared.τ).loc Cert.Shared.main_arg4))
      ∧ r.2.sem = fun _ => 0)

def quiescent_SharedIdeal [hSharedIdeal : Cert.SharedIdeal.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
      ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
      ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3)
      ∧ r.2.mem ((c.tc : Thread Cert.SharedIdeal.nD Cert.SharedIdeal.τ).loc Cert.SharedIdeal.main_arg4) = m ((c.tc : Thread Cert.SharedIdeal.nD Cert.SharedIdeal.τ).loc Cert.SharedIdeal.main_arg4))
      ∧ r.2.sem = fun _ => 0)

def quiescent_SharedReferenceIdeal [hSharedReferenceIdeal : Cert.SharedReferenceIdeal.Facts] : Prop :=
  ∀ (m : (ℓ : Loc Cert.SharedReferenceIdeal.nD Cert.SharedReferenceIdeal.τ Cert.SharedReferenceIdeal.sig) → Buf (Elt Ideal) ℓ) (g : Dev Cert.SharedReferenceIdeal.nD → PrngReg), Pre_SharedReferenceIdeal m →
    θ_run (Cert.SharedReferenceIdeal.defs (F := Ideal)) (onTc (τ := Cert.SharedReferenceIdeal.τ) (Cert.SharedReferenceIdeal.main (F := Ideal))) ⟨m, fun _ => 0, g⟩ (fun r => (∀ c : Dev Cert.SharedReferenceIdeal.nD,
      r.2.mem ((c.tc : Thread Cert.SharedReferenceIdeal.nD Cert.SharedReferenceIdeal.τ).loc Cert.SharedReferenceIdeal.main_arg0) = m ((c.tc : Thread Cert.SharedReferenceIdeal.nD Cert.SharedReferenceIdeal.τ).loc Cert.SharedReferenceIdeal.main_arg0)
      ∧ r.2.mem ((c.tc : Thread Cert.SharedReferenceIdeal.nD Cert.SharedReferenceIdeal.τ).loc Cert.SharedReferenceIdeal.main_arg1) = m ((c.tc : Thread Cert.SharedReferenceIdeal.nD Cert.SharedReferenceIdeal.τ).loc Cert.SharedReferenceIdeal.main_arg1)
      ∧ r.2.mem ((c.tc : Thread Cert.SharedReferenceIdeal.nD Cert.SharedReferenceIdeal.τ).loc Cert.SharedReferenceIdeal.main_arg2) = m ((c.tc : Thread Cert.SharedReferenceIdeal.nD Cert.SharedReferenceIdeal.τ).loc Cert.SharedReferenceIdeal.main_arg2)
      ∧ r.2.mem ((c.tc : Thread Cert.SharedReferenceIdeal.nD Cert.SharedReferenceIdeal.τ).loc Cert.SharedReferenceIdeal.main_arg3) = m ((c.tc : Thread Cert.SharedReferenceIdeal.nD Cert.SharedReferenceIdeal.τ).loc Cert.SharedReferenceIdeal.main_arg3)
      ∧ r.2.mem ((c.tc : Thread Cert.SharedReferenceIdeal.nD Cert.SharedReferenceIdeal.τ).loc Cert.SharedReferenceIdeal.main_arg4) = m ((c.tc : Thread Cert.SharedReferenceIdeal.nD Cert.SharedReferenceIdeal.τ).loc Cert.SharedReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Shared_SharedIdeal : Prop :=
  True

def algebraic_SharedIdeal_SharedReferenceIdeal [hSharedIdeal : Cert.SharedIdeal.Facts] [hSharedReferenceIdeal : Cert.SharedReferenceIdeal.Facts] : Prop :=
  ∀ (m : (ℓ : Loc Cert.SharedIdeal.nD Cert.SharedIdeal.τ Cert.SharedIdeal.sig) → Buf (Elt Ideal) ℓ) (g : Dev Cert.SharedIdeal.nD → PrngReg)
    (m' : (ℓ : Loc Cert.SharedReferenceIdeal.nD Cert.SharedReferenceIdeal.τ Cert.SharedReferenceIdeal.sig) → Buf (Elt Ideal) ℓ) (g' : Dev Cert.SharedReferenceIdeal.nD → PrngReg), Pre_SharedIdeal m →
    (∀ c : Dev Cert.SharedIdeal.nD,
      m' ((c.tc : Thread Cert.SharedReferenceIdeal.nD Cert.SharedReferenceIdeal.τ).loc Cert.SharedReferenceIdeal.main_arg0) = m ((c.tc : Thread Cert.SharedIdeal.nD Cert.SharedIdeal.τ).loc Cert.SharedIdeal.main_arg0)
      ∧ m' ((c.tc : Thread Cert.SharedReferenceIdeal.nD Cert.SharedReferenceIdeal.τ).loc Cert.SharedReferenceIdeal.main_arg1) = m ((c.tc : Thread Cert.SharedIdeal.nD Cert.SharedIdeal.τ).loc Cert.SharedIdeal.main_arg1)
      ∧ m' ((c.tc : Thread Cert.SharedReferenceIdeal.nD Cert.SharedReferenceIdeal.τ).loc Cert.SharedReferenceIdeal.main_arg2) = m ((c.tc : Thread Cert.SharedIdeal.nD Cert.SharedIdeal.τ).loc Cert.SharedIdeal.main_arg2)
      ∧ m' ((c.tc : Thread Cert.SharedReferenceIdeal.nD Cert.SharedReferenceIdeal.τ).loc Cert.SharedReferenceIdeal.main_arg3) = m ((c.tc : Thread Cert.SharedIdeal.nD Cert.SharedIdeal.τ).loc Cert.SharedIdeal.main_arg3)
      ∧ m' ((c.tc : Thread Cert.SharedReferenceIdeal.nD Cert.SharedReferenceIdeal.τ).loc Cert.SharedReferenceIdeal.main_arg4) = m ((c.tc : Thread Cert.SharedIdeal.nD Cert.SharedIdeal.τ).loc Cert.SharedIdeal.main_arg4)) →
    ∃ (v0 : (c : Dev Cert.SharedIdeal.nD) → Buf (Elt Ideal) ((c.tc : Thread Cert.SharedIdeal.nD Cert.SharedIdeal.τ).loc Cert.SharedIdeal.main_v0)),
      θ_run (Cert.SharedIdeal.defs (F := Ideal)) (onTc (τ := Cert.SharedIdeal.τ) (Cert.SharedIdeal.main (F := Ideal))) ⟨m, fun _ => 0, g⟩ (fun r => ∀ c : Dev Cert.SharedIdeal.nD,
          r.2.mem ((c.tc : Thread Cert.SharedIdeal.nD Cert.SharedIdeal.τ).loc Cert.SharedIdeal.main_v0) = v0 c
          ∧ r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
          ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
          ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
          ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3)
          ∧ r.2.mem ((c.tc : Thread Cert.SharedIdeal.nD Cert.SharedIdeal.τ).loc Cert.SharedIdeal.main_arg4) = m ((c.tc : Thread Cert.SharedIdeal.nD Cert.SharedIdeal.τ).loc Cert.SharedIdeal.main_arg4))
      ∧ θ_run (Cert.SharedReferenceIdeal.defs (F := Ideal)) (onTc (τ := Cert.SharedReferenceIdeal.τ) (Cert.SharedReferenceIdeal.main (F := Ideal))) ⟨m', fun _ => 0, g'⟩ (fun r => ∀ c : Dev Cert.SharedReferenceIdeal.nD,
          r.2.mem ((c.tc : Thread Cert.SharedReferenceIdeal.nD Cert.SharedReferenceIdeal.τ).loc Cert.SharedReferenceIdeal.main_v0) = v0 c
          ∧ r.2.mem ((c.tc : Thread Cert.SharedReferenceIdeal.nD Cert.SharedReferenceIdeal.τ).loc Cert.SharedReferenceIdeal.main_arg0) = m' ((c.tc : Thread Cert.SharedReferenceIdeal.nD Cert.SharedReferenceIdeal.τ).loc Cert.SharedReferenceIdeal.main_arg0)
          ∧ r.2.mem ((c.tc : Thread Cert.SharedReferenceIdeal.nD Cert.SharedReferenceIdeal.τ).loc Cert.SharedReferenceIdeal.main_arg1) = m' ((c.tc : Thread Cert.SharedReferenceIdeal.nD Cert.SharedReferenceIdeal.τ).loc Cert.SharedReferenceIdeal.main_arg1)
          ∧ r.2.mem ((c.tc : Thread Cert.SharedReferenceIdeal.nD Cert.SharedReferenceIdeal.τ).loc Cert.SharedReferenceIdeal.main_arg2) = m' ((c.tc : Thread Cert.SharedReferenceIdeal.nD Cert.SharedReferenceIdeal.τ).loc Cert.SharedReferenceIdeal.main_arg2)
          ∧ r.2.mem ((c.tc : Thread Cert.SharedReferenceIdeal.nD Cert.SharedReferenceIdeal.τ).loc Cert.SharedReferenceIdeal.main_arg3) = m' ((c.tc : Thread Cert.SharedReferenceIdeal.nD Cert.SharedReferenceIdeal.τ).loc Cert.SharedReferenceIdeal.main_arg3)
          ∧ r.2.mem ((c.tc : Thread Cert.SharedReferenceIdeal.nD Cert.SharedReferenceIdeal.τ).loc Cert.SharedReferenceIdeal.main_arg4) = m' ((c.tc : Thread Cert.SharedReferenceIdeal.nD Cert.SharedReferenceIdeal.τ).loc Cert.SharedReferenceIdeal.main_arg4))

def Claim : Prop :=
  ∃ (hKernel : Cert.Kernel.Facts) (hKernelIdeal : Cert.KernelIdeal.Facts) (hReferenceIdeal : Cert.ReferenceIdeal.Facts) (hShared : Cert.Shared.Facts) (hSharedIdeal : Cert.SharedIdeal.Facts) (hSharedReferenceIdeal : Cert.SharedReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Shared (hShared := hShared)
    ∧ quiescent_SharedIdeal (hSharedIdeal := hSharedIdeal)
    ∧ quiescent_SharedReferenceIdeal (hSharedReferenceIdeal := hSharedReferenceIdeal)
    ∧ preserves_Kernel_KernelIdeal
    ∧ algebraic_KernelIdeal_ReferenceIdeal (hKernelIdeal := hKernelIdeal) (hReferenceIdeal := hReferenceIdeal)
    ∧ preserves_Shared_SharedIdeal
    ∧ algebraic_SharedIdeal_SharedReferenceIdeal (hSharedIdeal := hSharedIdeal) (hSharedReferenceIdeal := hSharedReferenceIdeal)
-- ==== Kernel.lean ====
abbrev S6144x7168 : Shape := ⟨2, ![6144, 7168]⟩
abbrev S7168x36864 : Shape := ⟨2, ![7168, 36864]⟩
abbrev S56x288 : Shape := ⟨2, ![56, 288]⟩
abbrev S6144x18432 : Shape := ⟨2, ![6144, 18432]⟩
abbrev S1024x7168 : Shape := ⟨2, ![1024, 7168]⟩
abbrev S7168x256 : Shape := ⟨2, ![7168, 256]⟩
abbrev S1024x256 : Shape := ⟨2, ![1024, 256]⟩
abbrev S1x1 : Shape := ⟨2, ![1, 1]⟩
abbrev S128x128 : Shape := ⟨2, ![128, 128]⟩

abbrev nBuf : Space → Nat
  | .hbm => 4
  | .vmem => 10
  | .smem => 1
  | _ => 0

abbrev bufTy : (tb : Table) → Fin (tcTables nBuf tb) → BufTy
  | .hbm, ⟨0, _⟩ => ⟨S6144x7168, .bf16⟩
  | .hbm, ⟨1, _⟩ => ⟨S7168x36864, .fp8e4m3⟩
  | .hbm, ⟨2, _⟩ => ⟨S56x288, .f32⟩
  | .hbm, ⟨3, _⟩ => ⟨S6144x18432, .bf16⟩
  | .local _ .vmem, ⟨0, _⟩ => ⟨S1024x7168, .bf16⟩
  | .local _ .vmem, ⟨1, _⟩ => ⟨S1024x7168, .bf16⟩
  | .local _ .vmem, ⟨2, _⟩ => ⟨S7168x256, .fp8e4m3⟩
  | .local _ .vmem, ⟨3, _⟩ => ⟨S7168x256, .fp8e4m3⟩
  | .local _ .vmem, ⟨4, _⟩ => ⟨S7168x256, .fp8e4m3⟩
  | .local _ .vmem, ⟨5, _⟩ => ⟨S7168x256, .fp8e4m3⟩
  | .local _ .vmem, ⟨6, _⟩ => ⟨S1024x256, .bf16⟩
  | .local _ .vmem, ⟨7, _⟩ => ⟨S1024x256, .bf16⟩
  | .local _ .vmem, ⟨8, _⟩ => ⟨S7168x256, .bf16⟩
  | .local _ .vmem, ⟨9, _⟩ => ⟨S7168x256, .bf16⟩
  | .local _ .smem, ⟨0, _⟩ => ⟨S56x288, .f32⟩
  | _, _ => ⟨S6144x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![6, 72], ![false, false]⟩

def k0_off1 (i : grid0.Coords) (c0_i32 : BitVec 32) : Fin 2 → Nat :=
  let c0 : Index := 0#32
  let arg1 : BitVec 32 := BitVec.ofNat 32 (i 1).val
  let c2_i32 : BitVec 32 := 2#32
  let v0 : BitVec 32 := Scalar.muli arg1 c2_i32
  let v1 : BitVec 32 := Scalar.addi v0 c0_i32
  let v2 : Index := Scalar.indexCast v1
  ![0, v2.toNat]
def k0_off2 (i : grid0.Coords) (c0_i32_1 : BitVec 32) : Fin 2 → Nat :=
  let c0_2 : Index := 0#32
  let c144_i32 : BitVec 32 := 144#32
  let arg1 : BitVec 32 := BitVec.ofNat 32 (i 1).val
  let c2_i32_0 : BitVec 32 := 2#32
  let v4 : BitVec 32 := Scalar.muli arg1 c2_i32_0
  let v5 : BitVec 32 := Scalar.addi c144_i32 v4
  let v6 : BitVec 32 := Scalar.addi v5 c0_i32_1
  let v7 : Index := Scalar.indexCast v6
  ![0, v7.toNat]
def k0_off3 (i : grid0.Coords) (c0_i32_25 : BitVec 32) : Fin 2 → Nat :=
  let c1 : Index := 1#32
  let arg1 : BitVec 32 := BitVec.ofNat 32 (i 1).val
  let c2_i32_24 : BitVec 32 := 2#32
  let v50 : BitVec 32 := Scalar.muli arg1 c2_i32_24
  let v51 : BitVec 32 := Scalar.addi v50 c0_i32_25
  let v52 : Index := Scalar.indexCast v51
  ![1, v52.toNat]
def k0_off4 (i : grid0.Coords) (c0_i32_28 : BitVec 32) : Fin 2 → Nat :=
  let c1_29 : Index := 1#32
  let c144_i32_27 : BitVec 32 := 144#32
  let arg1 : BitVec 32 := BitVec.ofNat 32 (i 1).val
  let c2_i32_26 : BitVec 32 := 2#32
  let v54 : BitVec 32 := Scalar.muli arg1 c2_i32_26
  let v55 : BitVec 32 := Scalar.addi c144_i32_27 v54
  let v56 : BitVec 32 := Scalar.addi v55 c0_i32_28
  let v57 : Index := Scalar.indexCast v56
  ![1, v57.toNat]
def k0_off5 (i : grid0.Coords) (c0_i32_54 : BitVec 32) : Fin 2 → Nat :=
  let c2 : Index := 2#32
  let arg1 : BitVec 32 := BitVec.ofNat 32 (i 1).val
  let c2_i32_53 : BitVec 32 := 2#32
  let v100 : BitVec 32 := Scalar.muli arg1 c2_i32_53
  let v101 : BitVec 32 := Scalar.addi v100 c0_i32_54
  let v102 : Index := Scalar.indexCast v101
  ![2, v102.toNat]
def k0_off6 (i : grid0.Coords) (c0_i32_57 : BitVec 32) : Fin 2 → Nat :=
  let c2_58 : Index := 2#32
  let c144_i32_56 : BitVec 32 := 144#32
  let arg1 : BitVec 32 := BitVec.ofNat 32 (i 1).val
  let c2_i32_55 : BitVec 32 := 2#32
  let v104 : BitVec 32 := Scalar.muli arg1 c2_i32_55
  let v105 : BitVec 32 := Scalar.addi c144_i32_56 v104
  let v106 : BitVec 32 := Scalar.addi v105 c0_i32_57
  let v107 : Index := Scalar.indexCast v106
  ![2, v107.toNat]
def k0_off7 (i : grid0.Coords) (c0_i32_82 : BitVec 32) : Fin 2 → Nat :=
  let c3 : Index := 3#32
  let arg1 : BitVec 32 := BitVec.ofNat 32 (i 1).val
  let c2_i32_81 : BitVec 32 := 2#32
  let v150 : BitVec 32 := Scalar.muli arg1 c2_i32_81
  let v151 : BitVec 32 := Scalar.addi v150 c0_i32_82
  let v152 : Index := Scalar.indexCast v151
  ![3, v152.toNat]
def k0_off8 (i : grid0.Coords) (c0_i32_85 : BitVec 32) : Fin 2 → Nat :=
  let c3_86 : Index := 3#32
  let c144_i32_84 : BitVec 32 := 144#32
  let arg1 : BitVec 32 := BitVec.ofNat 32 (i 1).val
  let c2_i32_83 : BitVec 32 := 2#32
  let v154 : BitVec 32 := Scalar.muli arg1 c2_i32_83
  let v155 : BitVec 32 := Scalar.addi c144_i32_84 v154
  let v156 : BitVec 32 := Scalar.addi v155 c0_i32_85
  let v157 : Index := Scalar.indexCast v156
  ![3, v157.toNat]
def k0_off9 (i : grid0.Coords) (c0_i32_110 : BitVec 32) : Fin 2 → Nat :=
  let c4 : Index := 4#32
  let arg1 : BitVec 32 := BitVec.ofNat 32 (i 1).val
  let c2_i32_109 : BitVec 32 := 2#32
  let v200 : BitVec 32 := Scalar.muli arg1 c2_i32_109
  let v201 : BitVec 32 := Scalar.addi v200 c0_i32_110
  let v202 : Index := Scalar.indexCast v201
  ![4, v202.toNat]
def k0_off10 (i : grid0.Coords) (c0_i32_113 : BitVec 32) : Fin 2 → Nat :=
  let c4_114 : Index := 4#32
  let c144_i32_112 : BitVec 32 := 144#32
  let arg1 : BitVec 32 := BitVec.ofNat 32 (i 1).val
  let c2_i32_111 : BitVec 32 := 2#32
  let v204 : BitVec 32 := Scalar.muli arg1 c2_i32_111
  let v205 : BitVec 32 := Scalar.addi c144_i32_112 v204
  let v206 : BitVec 32 := Scalar.addi v205 c0_i32_113
  let v207 : Index := Scalar.indexCast v206
  ![4, v207.toNat]
def k0_off11 (i : grid0.Coords) (c0_i32_138 : BitVec 32) : Fin 2 → Nat :=
  let c5 : Index := 5#32
  let arg1 : BitVec 32 := BitVec.ofNat 32 (i 1).val
  let c2_i32_137 : BitVec 32 := 2#32
  let v250 : BitVec 32 := Scalar.muli arg1 c2_i32_137
  let v251 : BitVec 32 := Scalar.addi v250 c0_i32_138
  let v252 : Index := Scalar.indexCast v251
  ![5, v252.toNat]
def k0_off12 (i : grid0.Coords) (c0_i32_141 : BitVec 32) : Fin 2 → Nat :=
  let c5_142 : Index := 5#32
  let c144_i32_140 : BitVec 32 := 144#32
  let arg1 : BitVec 32 := BitVec.ofNat 32 (i 1).val
  let c2_i32_139 : BitVec 32 := 2#32
  let v254 : BitVec 32 := Scalar.muli arg1 c2_i32_139
  let v255 : BitVec 32 := Scalar.addi c144_i32_140 v254
  let v256 : BitVec 32 := Scalar.addi v255 c0_i32_141
  let v257 : Index := Scalar.indexCast v256
  ![5, v257.toNat]
def k0_off13 (i : grid0.Coords) (c0_i32_166 : BitVec 32) : Fin 2 → Nat :=
  let c6 : Index := 6#32
  let arg1 : BitVec 32 := BitVec.ofNat 32 (i 1).val
  let c2_i32_165 : BitVec 32 := 2#32
  let v300 : BitVec 32 := Scalar.muli arg1 c2_i32_165
  let v301 : BitVec 32 := Scalar.addi v300 c0_i32_166
  let v302 : Index := Scalar.indexCast v301
  ![6, v302.toNat]
def k0_off14 (i : grid0.Coords) (c0_i32_169 : BitVec 32) : Fin 2 → Nat :=
  let c6_170 : Index := 6#32
  let c144_i32_168 : BitVec 32 := 144#32
  let arg1 : BitVec 32 := BitVec.ofNat 32 (i 1).val
  let c2_i32_167 : BitVec 32 := 2#32
  let v304 : BitVec 32 := Scalar.muli arg1 c2_i32_167
  let v305 : BitVec 32 := Scalar.addi c144_i32_168 v304
  let v306 : BitVec 32 := Scalar.addi v305 c0_i32_169
  let v307 : Index := Scalar.indexCast v306
  ![6, v307.toNat]
def k0_off15 (i : grid0.Coords) (c0_i32_194 : BitVec 32) : Fin 2 → Nat :=
  let c7 : Index := 7#32
  let arg1 : BitVec 32 := BitVec.ofNat 32 (i 1).val
  let c2_i32_193 : BitVec 32 := 2#32
  let v350 : BitVec 32 := Scalar.muli arg1 c2_i32_193
  let v351 : BitVec 32 := Scalar.addi v350 c0_i32_194
  let v352 : Index := Scalar.indexCast v351
  ![7, v352.toNat]
def k0_off16 (i : grid0.Coords) (c0_i32_197 : BitVec 32) : Fin 2 → Nat :=
  let c7_198 : Index := 7#32
  let c144_i32_196 : BitVec 32 := 144#32
  let arg1 : BitVec 32 := BitVec.ofNat 32 (i 1).val
  let c2_i32_195 : BitVec 32 := 2#32
  let v354 : BitVec 32 := Scalar.muli arg1 c2_i32_195
  let v355 : BitVec 32 := Scalar.addi c144_i32_196 v354
  let v356 : BitVec 32 := Scalar.addi v355 c0_i32_197
  let v357 : Index := Scalar.indexCast v356
  ![7, v357.toNat]
def k0_off17 (i : grid0.Coords) (c0_i32_222 : BitVec 32) : Fin 2 → Nat :=
  let c8 : Index := 8#32
  let arg1 : BitVec 32 := BitVec.ofNat 32 (i 1).val
  let c2_i32_221 : BitVec 32 := 2#32
  let v400 : BitVec 32 := Scalar.muli arg1 c2_i32_221
  let v401 : BitVec 32 := Scalar.addi v400 c0_i32_222
  let v402 : Index := Scalar.indexCast v401
  ![8, v402.toNat]
def k0_off18 (i : grid0.Coords) (c0_i32_225 : BitVec 32) : Fin 2 → Nat :=
  let c8_226 : Index := 8#32
  let c144_i32_224 : BitVec 32 := 144#32
  let arg1 : BitVec 32 := BitVec.ofNat 32 (i 1).val
  let c2_i32_223 : BitVec 32 := 2#32
  let v404 : BitVec 32 := Scalar.muli arg1 c2_i32_223
  let v405 : BitVec 32 := Scalar.addi c144_i32_224 v404
  let v406 : BitVec 32 := Scalar.addi v405 c0_i32_225
  let v407 : Index := Scalar.indexCast v406
  ![8, v407.toNat]
def k0_off19 (i : grid0.Coords) (c0_i32_250 : BitVec 32) : Fin 2 → Nat :=
  let c9 : Index := 9#32
  let arg1 : BitVec 32 := BitVec.ofNat 32 (i 1).val
  let c2_i32_249 : BitVec 32 := 2#32
  let v450 : BitVec 32 := Scalar.muli arg1 c2_i32_249
  let v451 : BitVec 32 := Scalar.addi v450 c0_i32_250
  let v452 : Index := Scalar.indexCast v451
  ![9, v452.toNat]
def k0_off20 (i : grid0.Coords) (c0_i32_253 : BitVec 32) : Fin 2 → Nat :=
  let c9_254 : Index := 9#32
  let c144_i32_252 : BitVec 32 := 144#32
  let arg1 : BitVec 32 := BitVec.ofNat 32 (i 1).val
  let c2_i32_251 : BitVec 32 := 2#32
  let v454 : BitVec 32 := Scalar.muli arg1 c2_i32_251
  let v455 : BitVec 32 := Scalar.addi c144_i32_252 v454
  let v456 : BitVec 32 := Scalar.addi v455 c0_i32_253
  let v457 : Index := Scalar.indexCast v456
  ![9, v457.toNat]
def k0_off21 (i : grid0.Coords) (c0_i32_278 : BitVec 32) : Fin 2 → Nat :=
  let c10 : Index := 10#32
  let arg1 : BitVec 32 := BitVec.ofNat 32 (i 1).val
  let c2_i32_277 : BitVec 32 := 2#32
  let v500 : BitVec 32 := Scalar.muli arg1 c2_i32_277
  let v501 : BitVec 32 := Scalar.addi v500 c0_i32_278
  let v502 : Index := Scalar.indexCast v501
  ![10, v502.toNat]
def k0_off22 (i : grid0.Coords) (c0_i32_281 : BitVec 32) : Fin 2 → Nat :=
  let c10_282 : Index := 10#32
  let c144_i32_280 : BitVec 32 := 144#32
  let arg1 : BitVec 32 := BitVec.ofNat 32 (i 1).val
  let c2_i32_279 : BitVec 32 := 2#32
  let v504 : BitVec 32 := Scalar.muli arg1 c2_i32_279
  let v505 : BitVec 32 := Scalar.addi c144_i32_280 v504
  let v506 : BitVec 32 := Scalar.addi v505 c0_i32_281
  let v507 : Index := Scalar.indexCast v506
  ![10, v507.toNat]
def k0_off23 (i : grid0.Coords) (c0_i32_306 : BitVec 32) : Fin 2 → Nat :=
  let c11 : Index := 11#32
  let arg1 : BitVec 32 := BitVec.ofNat 32 (i 1).val
  let c2_i32_305 : BitVec 32 := 2#32
  let v550 : BitVec 32 := Scalar.muli arg1 c2_i32_305
  let v551 : BitVec 32 := Scalar.addi v550 c0_i32_306
  let v552 : Index := Scalar.indexCast v551
  ![11, v552.toNat]
def k0_off24 (i : grid0.Coords) (c0_i32_309 : BitVec 32) : Fin 2 → Nat :=
  let c11_310 : Index := 11#32
  let c144_i32_308 : BitVec 32 := 144#32
  let arg1 : BitVec 32 := BitVec.ofNat 32 (i 1).val
  let c2_i32_307 : BitVec 32 := 2#32
  let v554 : BitVec 32 := Scalar.muli arg1 c2_i32_307
  let v555 : BitVec 32 := Scalar.addi c144_i32_308 v554
  let v556 : BitVec 32 := Scalar.addi v555 c0_i32_309
  let v557 : Index := Scalar.indexCast v556
  ![11, v557.toNat]
def k0_off25 (i : grid0.Coords) (c0_i32_334 : BitVec 32) : Fin 2 → Nat :=
  let c12 : Index := 12#32
  let arg1 : BitVec 32 := BitVec.ofNat 32 (i 1).val
  let c2_i32_333 : BitVec 32 := 2#32
  let v600 : BitVec 32 := Scalar.muli arg1 c2_i32_333
  let v601 : BitVec 32 := Scalar.addi v600 c0_i32_334
  let v602 : Index := Scalar.indexCast v601
  ![12, v602.toNat]
def k0_off26 (i : grid0.Coords) (c0_i32_337 : BitVec 32) : Fin 2 → Nat :=
  let c12_338 : Index := 12#32
  let c144_i32_336 : BitVec 32 := 144#32
  let arg1 : BitVec 32 := BitVec.ofNat 32 (i 1).val
  let c2_i32_335 : BitVec 32 := 2#32
  let v604 : BitVec 32 := Scalar.muli arg1 c2_i32_335
  let v605 : BitVec 32 := Scalar.addi c144_i32_336 v604
  let v606 : BitVec 32 := Scalar.addi v605 c0_i32_337
  let v607 : Index := Scalar.indexCast v606
  ![12, v607.toNat]
def k0_off27 (i : grid0.Coords) (c0_i32_362 : BitVec 32) : Fin 2 → Nat :=
  let c13 : Index := 13#32
  let arg1 : BitVec 32 := BitVec.ofNat 32 (i 1).val
  let c2_i32_361 : BitVec 32 := 2#32
  let v650 : BitVec 32 := Scalar.muli arg1 c2_i32_361
  let v651 : BitVec 32 := Scalar.addi v650 c0_i32_362
  let v652 : Index := Scalar.indexCast v651
  ![13, v652.toNat]
def k0_off28 (i : grid0.Coords) (c0_i32_365 : BitVec 32) : Fin 2 → Nat :=
  let c13_366 : Index := 13#32
  let c144_i32_364 : BitVec 32 := 144#32
  let arg1 : BitVec 32 := BitVec.ofNat 32 (i 1).val
  let c2_i32_363 : BitVec 32 := 2#32
  let v654 : BitVec 32 := Scalar.muli arg1 c2_i32_363
  let v655 : BitVec 32 := Scalar.addi c144_i32_364 v654
  let v656 : BitVec 32 := Scalar.addi v655 c0_i32_365
  let v657 : Index := Scalar.indexCast v656
  ![13, v657.toNat]
def k0_off29 (i : grid0.Coords) (c0_i32_390 : BitVec 32) : Fin 2 → Nat :=
  let c14 : Index := 14#32
  let arg1 : BitVec 32 := BitVec.ofNat 32 (i 1).val
  let c2_i32_389 : BitVec 32 := 2#32
  let v700 : BitVec 32 := Scalar.muli arg1 c2_i32_389
  let v701 : BitVec 32 := Scalar.addi v700 c0_i32_390
  let v702 : Index := Scalar.indexCast v701
  ![14, v702.toNat]
def k0_off30 (i : grid0.Coords) (c0_i32_393 : BitVec 32) : Fin 2 → Nat :=
  let c14_394 : Index := 14#32
  let c144_i32_392 : BitVec 32 := 144#32
  let arg1 : BitVec 32 := BitVec.ofNat 32 (i 1).val
  let c2_i32_391 : BitVec 32 := 2#32
  let v704 : BitVec 32 := Scalar.muli arg1 c2_i32_391
  let v705 : BitVec 32 := Scalar.addi c144_i32_392 v704
  let v706 : BitVec 32 := Scalar.addi v705 c0_i32_393
  let v707 : Index := Scalar.indexCast v706
  ![14, v707.toNat]
def k0_off31 (i : grid0.Coords) (c0_i32_418 : BitVec 32) : Fin 2 → Nat :=
  let c15 : Index := 15#32
  let arg1 : BitVec 32 := BitVec.ofNat 32 (i 1).val
  let c2_i32_417 : BitVec 32 := 2#32
  let v750 : BitVec 32 := Scalar.muli arg1 c2_i32_417
  let v751 : BitVec 32 := Scalar.addi v750 c0_i32_418
  let v752 : Index := Scalar.indexCast v751
  ![15, v752.toNat]
def k0_off32 (i : grid0.Coords) (c0_i32_421 : BitVec 32) : Fin 2 → Nat :=
  let c15_422 : Index := 15#32
  let c144_i32_420 : BitVec 32 := 144#32
  let arg1 : BitVec 32 := BitVec.ofNat 32 (i 1).val
  let c2_i32_419 : BitVec 32 := 2#32
  let v754 : BitVec 32 := Scalar.muli arg1 c2_i32_419
  let v755 : BitVec 32 := Scalar.addi c144_i32_420 v754
  let v756 : BitVec 32 := Scalar.addi v755 c0_i32_421
  let v757 : Index := Scalar.indexCast v756
  ![15, v757.toNat]
def k0_off33 (i : grid0.Coords) (c0_i32_446 : BitVec 32) : Fin 2 → Nat :=
  let c16 : Index := 16#32
  let arg1 : BitVec 32 := BitVec.ofNat 32 (i 1).val
  let c2_i32_445 : BitVec 32 := 2#32
  let v800 : BitVec 32 := Scalar.muli arg1 c2_i32_445
  let v801 : BitVec 32 := Scalar.addi v800 c0_i32_446
  let v802 : Index := Scalar.indexCast v801
  ![16, v802.toNat]
def k0_off34 (i : grid0.Coords) (c0_i32_449 : BitVec 32) : Fin 2 → Nat :=
  let c16_450 : Index := 16#32
  let c144_i32_448 : BitVec 32 := 144#32
  let arg1 : BitVec 32 := BitVec.ofNat 32 (i 1).val
  let c2_i32_447 : BitVec 32 := 2#32
  let v804 : BitVec 32 := Scalar.muli arg1 c2_i32_447
  let v805 : BitVec 32 := Scalar.addi c144_i32_448 v804
  let v806 : BitVec 32 := Scalar.addi v805 c0_i32_449
  let v807 : Index := Scalar.indexCast v806
  ![16, v807.toNat]
def k0_off35 (i : grid0.Coords) (c0_i32_474 : BitVec 32) : Fin 2 → Nat :=
  let c17 : Index := 17#32
  let arg1 : BitVec 32 := BitVec.ofNat 32 (i 1).val
  let c2_i32_473 : BitVec 32 := 2#32
  let v850 : BitVec 32 := Scalar.muli arg1 c2_i32_473
  let v851 : BitVec 32 := Scalar.addi v850 c0_i32_474
  let v852 : Index := Scalar.indexCast v851
  ![17, v852.toNat]
def k0_off36 (i : grid0.Coords) (c0_i32_477 : BitVec 32) : Fin 2 → Nat :=
  let c17_478 : Index := 17#32
  let c144_i32_476 : BitVec 32 := 144#32
  let arg1 : BitVec 32 := BitVec.ofNat 32 (i 1).val
  let c2_i32_475 : BitVec 32 := 2#32
  let v854 : BitVec 32 := Scalar.muli arg1 c2_i32_475
  let v855 : BitVec 32 := Scalar.addi c144_i32_476 v854
  let v856 : BitVec 32 := Scalar.addi v855 c0_i32_477
  let v857 : Index := Scalar.indexCast v856
  ![17, v857.toNat]
def k0_off37 (i : grid0.Coords) (c0_i32_502 : BitVec 32) : Fin 2 → Nat :=
  let c18 : Index := 18#32
  let arg1 : BitVec 32 := BitVec.ofNat 32 (i 1).val
  let c2_i32_501 : BitVec 32 := 2#32
  let v900 : BitVec 32 := Scalar.muli arg1 c2_i32_501
  let v901 : BitVec 32 := Scalar.addi v900 c0_i32_502
  let v902 : Index := Scalar.indexCast v901
  ![18, v902.toNat]
def k0_off38 (i : grid0.Coords) (c0_i32_505 : BitVec 32) : Fin 2 → Nat :=
  let c18_506 : Index := 18#32
  let c144_i32_504 : BitVec 32 := 144#32
  let arg1 : BitVec 32 := BitVec.ofNat 32 (i 1).val
  let c2_i32_503 : BitVec 32 := 2#32
  let v904 : BitVec 32 := Scalar.muli arg1 c2_i32_503
  let v905 : BitVec 32 := Scalar.addi c144_i32_504 v904
  let v906 : BitVec 32 := Scalar.addi v905 c0_i32_505
  let v907 : Index := Scalar.indexCast v906
  ![18, v907.toNat]
def k0_off39 (i : grid0.Coords) (c0_i32_530 : BitVec 32) : Fin 2 → Nat :=
  let c19 : Index := 19#32
  let arg1 : BitVec 32 := BitVec.ofNat 32 (i 1).val
  let c2_i32_529 : BitVec 32 := 2#32
  let v950 : BitVec 32 := Scalar.muli arg1 c2_i32_529
  let v951 : BitVec 32 := Scalar.addi v950 c0_i32_530
  let v952 : Index := Scalar.indexCast v951
  ![19, v952.toNat]
def k0_off40 (i : grid0.Coords) (c0_i32_533 : BitVec 32) : Fin 2 → Nat :=
  let c19_534 : Index := 19#32
  let c144_i32_532 : BitVec 32 := 144#32
  let arg1 : BitVec 32 := BitVec.ofNat 32 (i 1).val
  let c2_i32_531 : BitVec 32 := 2#32
  let v954 : BitVec 32 := Scalar.muli arg1 c2_i32_531
  let v955 : BitVec 32 := Scalar.addi c144_i32_532 v954
  let v956 : BitVec 32 := Scalar.addi v955 c0_i32_533
  let v957 : Index := Scalar.indexCast v956
  ![19, v957.toNat]
def k0_off41 (i : grid0.Coords) (c0_i32_558 : BitVec 32) : Fin 2 → Nat :=
  let c20 : Index := 20#32
  let arg1 : BitVec 32 := BitVec.ofNat 32 (i 1).val
  let c2_i32_557 : BitVec 32 := 2#32
  let v1000 : BitVec 32 := Scalar.muli arg1 c2_i32_557
  let v1001 : BitVec 32 := Scalar.addi v1000 c0_i32_558
  let v1002 : Index := Scalar.indexCast v1001
  ![20, v1002.toNat]
def k0_off42 (i : grid0.Coords) (c0_i32_561 : BitVec 32) : Fin 2 → Nat :=
  let c20_562 : Index := 20#32
  let c144_i32_560 : BitVec 32 := 144#32
  let arg1 : BitVec 32 := BitVec.ofNat 32 (i 1).val
  let c2_i32_559 : BitVec 32 := 2#32
  let v1004 : BitVec 32 := Scalar.muli arg1 c2_i32_559
  let v1005 : BitVec 32 := Scalar.addi c144_i32_560 v1004
  let v1006 : BitVec 32 := Scalar.addi v1005 c0_i32_561
  let v1007 : Index := Scalar.indexCast v1006
  ![20, v1007.toNat]
def k0_off43 (i : grid0.Coords) (c0_i32_586 : BitVec 32) : Fin 2 → Nat :=
  let c21 : Index := 21#32
  let arg1 : BitVec 32 := BitVec.ofNat 32 (i 1).val
  let c2_i32_585 : BitVec 32 := 2#32
  let v1050 : BitVec 32 := Scalar.muli arg1 c2_i32_585
  let v1051 : BitVec 32 := Scalar.addi v1050 c0_i32_586
  let v1052 : Index := Scalar.indexCast v1051
  ![21, v1052.toNat]
def k0_off44 (i : grid0.Coords) (c0_i32_589 : BitVec 32) : Fin 2 → Nat :=
  let c21_590 : Index := 21#32
  let c144_i32_588 : BitVec 32 := 144#32
  let arg1 : BitVec 32 := BitVec.ofNat 32 (i 1).val
  let c2_i32_587 : BitVec 32 := 2#32
  let v1054 : BitVec 32 := Scalar.muli arg1 c2_i32_587
  let v1055 : BitVec 32 := Scalar.addi c144_i32_588 v1054
  let v1056 : BitVec 32 := Scalar.addi v1055 c0_i32_589
  let v1057 : Index := Scalar.indexCast v1056
  ![21, v1057.toNat]
def k0_off45 (i : grid0.Coords) (c0_i32_614 : BitVec 32) : Fin 2 → Nat :=
  let c22 : Index := 22#32
  let arg1 : BitVec 32 := BitVec.ofNat 32 (i 1).val
  let c2_i32_613 : BitVec 32 := 2#32
  let v1100 : BitVec 32 := Scalar.muli arg1 c2_i32_613
  let v1101 : BitVec 32 := Scalar.addi v1100 c0_i32_614
  let v1102 : Index := Scalar.indexCast v1101
  ![22, v1102.toNat]
def k0_off46 (i : grid0.Coords) (c0_i32_617 : BitVec 32) : Fin 2 → Nat :=
  let c22_618 : Index := 22#32
  let c144_i32_616 : BitVec 32 := 144#32
  let arg1 : BitVec 32 := BitVec.ofNat 32 (i 1).val
  let c2_i32_615 : BitVec 32 := 2#32
  let v1104 : BitVec 32 := Scalar.muli arg1 c2_i32_615
  let v1105 : BitVec 32 := Scalar.addi c144_i32_616 v1104
  let v1106 : BitVec 32 := Scalar.addi v1105 c0_i32_617
  let v1107 : Index := Scalar.indexCast v1106
  ![22, v1107.toNat]
def k0_off47 (i : grid0.Coords) (c0_i32_642 : BitVec 32) : Fin 2 → Nat :=
  let c23 : Index := 23#32
  let arg1 : BitVec 32 := BitVec.ofNat 32 (i 1).val
  let c2_i32_641 : BitVec 32 := 2#32
  let v1150 : BitVec 32 := Scalar.muli arg1 c2_i32_641
  let v1151 : BitVec 32 := Scalar.addi v1150 c0_i32_642
  let v1152 : Index := Scalar.indexCast v1151
  ![23, v1152.toNat]
def k0_off48 (i : grid0.Coords) (c0_i32_645 : BitVec 32) : Fin 2 → Nat :=
  let c23_646 : Index := 23#32
  let c144_i32_644 : BitVec 32 := 144#32
  let arg1 : BitVec 32 := BitVec.ofNat 32 (i 1).val
  let c2_i32_643 : BitVec 32 := 2#32
  let v1154 : BitVec 32 := Scalar.muli arg1 c2_i32_643
  let v1155 : BitVec 32 := Scalar.addi c144_i32_644 v1154
  let v1156 : BitVec 32 := Scalar.addi v1155 c0_i32_645
  let v1157 : Index := Scalar.indexCast v1156
  ![23, v1157.toNat]
def k0_off49 (i : grid0.Coords) (c0_i32_670 : BitVec 32) : Fin 2 → Nat :=
  let c24 : Index := 24#32
  let arg1 : BitVec 32 := BitVec.ofNat 32 (i 1).val
  let c2_i32_669 : BitVec 32 := 2#32
  let v1200 : BitVec 32 := Scalar.muli arg1 c2_i32_669
  let v1201 : BitVec 32 := Scalar.addi v1200 c0_i32_670
  let v1202 : Index := Scalar.indexCast v1201
  ![24, v1202.toNat]
def k0_off50 (i : grid0.Coords) (c0_i32_673 : BitVec 32) : Fin 2 → Nat :=
  let c24_674 : Index := 24#32
  let c144_i32_672 : BitVec 32 := 144#32
  let arg1 : BitVec 32 := BitVec.ofNat 32 (i 1).val
  let c2_i32_671 : BitVec 32 := 2#32
  let v1204 : BitVec 32 := Scalar.muli arg1 c2_i32_671
  let v1205 : BitVec 32 := Scalar.addi c144_i32_672 v1204
  let v1206 : BitVec 32 := Scalar.addi v1205 c0_i32_673
  let v1207 : Index := Scalar.indexCast v1206
  ![24, v1207.toNat]
def k0_off51 (i : grid0.Coords) (c0_i32_698 : BitVec 32) : Fin 2 → Nat :=
  let c25 : Index := 25#32
  let arg1 : BitVec 32 := BitVec.ofNat 32 (i 1).val
  let c2_i32_697 : BitVec 32 := 2#32
  let v1250 : BitVec 32 := Scalar.muli arg1 c2_i32_697
  let v1251 : BitVec 32 := Scalar.addi v1250 c0_i32_698
  let v1252 : Index := Scalar.indexCast v1251
  ![25, v1252.toNat]
def k0_off52 (i : grid0.Coords) (c0_i32_701 : BitVec 32) : Fin 2 → Nat :=
  let c25_702 : Index := 25#32
  let c144_i32_700 : BitVec 32 := 144#32
  let arg1 : BitVec 32 := BitVec.ofNat 32 (i 1).val
  let c2_i32_699 : BitVec 32 := 2#32
  let v1254 : BitVec 32 := Scalar.muli arg1 c2_i32_699
  let v1255 : BitVec 32 := Scalar.addi c144_i32_700 v1254
  let v1256 : BitVec 32 := Scalar.addi v1255 c0_i32_701
  let v1257 : Index := Scalar.indexCast v1256
  ![25, v1257.toNat]
def k0_off53 (i : grid0.Coords) (c0_i32_726 : BitVec 32) : Fin 2 → Nat :=
  let c26 : Index := 26#32
  let arg1 : BitVec 32 := BitVec.ofNat 32 (i 1).val
  let c2_i32_725 : BitVec 32 := 2#32
  let v1300 : BitVec 32 := Scalar.muli arg1 c2_i32_725
  let v1301 : BitVec 32 := Scalar.addi v1300 c0_i32_726
  let v1302 : Index := Scalar.indexCast v1301
  ![26, v1302.toNat]
def k0_off54 (i : grid0.Coords) (c0_i32_729 : BitVec 32) : Fin 2 → Nat :=
  let c26_730 : Index := 26#32
  let c144_i32_728 : BitVec 32 := 144#32
  let arg1 : BitVec 32 := BitVec.ofNat 32 (i 1).val
  let c2_i32_727 : BitVec 32 := 2#32
  let v1304 : BitVec 32 := Scalar.muli arg1 c2_i32_727
  let v1305 : BitVec 32 := Scalar.addi c144_i32_728 v1304
  let v1306 : BitVec 32 := Scalar.addi v1305 c0_i32_729
  let v1307 : Index := Scalar.indexCast v1306
  ![26, v1307.toNat]
def k0_off55 (i : grid0.Coords) (c0_i32_754 : BitVec 32) : Fin 2 → Nat :=
  let c27 : Index := 27#32
  let arg1 : BitVec 32 := BitVec.ofNat 32 (i 1).val
  let c2_i32_753 : BitVec 32 := 2#32
  let v1350 : BitVec 32 := Scalar.muli arg1 c2_i32_753
  let v1351 : BitVec 32 := Scalar.addi v1350 c0_i32_754
  let v1352 : Index := Scalar.indexCast v1351
  ![27, v1352.toNat]
def k0_off56 (i : grid0.Coords) (c0_i32_757 : BitVec 32) : Fin 2 → Nat :=
  let c27_758 : Index := 27#32
  let c144_i32_756 : BitVec 32 := 144#32
  let arg1 : BitVec 32 := BitVec.ofNat 32 (i 1).val
  let c2_i32_755 : BitVec 32 := 2#32
  let v1354 : BitVec 32 := Scalar.muli arg1 c2_i32_755
  let v1355 : BitVec 32 := Scalar.addi c144_i32_756 v1354
  let v1356 : BitVec 32 := Scalar.addi v1355 c0_i32_757
  let v1357 : Index := Scalar.indexCast v1356
  ![27, v1357.toNat]
def k0_off57 (i : grid0.Coords) (c0_i32_782 : BitVec 32) : Fin 2 → Nat :=
  let c28 : Index := 28#32
  let arg1 : BitVec 32 := BitVec.ofNat 32 (i 1).val
  let c2_i32_781 : BitVec 32 := 2#32
  let v1400 : BitVec 32 := Scalar.muli arg1 c2_i32_781
  let v1401 : BitVec 32 := Scalar.addi v1400 c0_i32_782
  let v1402 : Index := Scalar.indexCast v1401
  ![28, v1402.toNat]
def k0_off58 (i : grid0.Coords) (c0_i32_785 : BitVec 32) : Fin 2 → Nat :=
  let c28_786 : Index := 28#32
  let c144_i32_784 : BitVec 32 := 144#32
  let arg1 : BitVec 32 := BitVec.ofNat 32 (i 1).val
  let c2_i32_783 : BitVec 32 := 2#32
  let v1404 : BitVec 32 := Scalar.muli arg1 c2_i32_783
  let v1405 : BitVec 32 := Scalar.addi c144_i32_784 v1404
  let v1406 : BitVec 32 := Scalar.addi v1405 c0_i32_785
  let v1407 : Index := Scalar.indexCast v1406
  ![28, v1407.toNat]
def k0_off59 (i : grid0.Coords) (c0_i32_810 : BitVec 32) : Fin 2 → Nat :=
  let c29 : Index := 29#32
  let arg1 : BitVec 32 := BitVec.ofNat 32 (i 1).val
  let c2_i32_809 : BitVec 32 := 2#32
  let v1450 : BitVec 32 := Scalar.muli arg1 c2_i32_809
  let v1451 : BitVec 32 := Scalar.addi v1450 c0_i32_810
  let v1452 : Index := Scalar.indexCast v1451
  ![29, v1452.toNat]
def k0_off60 (i : grid0.Coords) (c0_i32_813 : BitVec 32) : Fin 2 → Nat :=
  let c29_814 : Index := 29#32
  let c144_i32_812 : BitVec 32 := 144#32
  let arg1 : BitVec 32 := BitVec.ofNat 32 (i 1).val
  let c2_i32_811 : BitVec 32 := 2#32
  let v1454 : BitVec 32 := Scalar.muli arg1 c2_i32_811
  let v1455 : BitVec 32 := Scalar.addi c144_i32_812 v1454
  let v1456 : BitVec 32 := Scalar.addi v1455 c0_i32_813
  let v1457 : Index := Scalar.indexCast v1456
  ![29, v1457.toNat]
def k0_off61 (i : grid0.Coords) (c0_i32_838 : BitVec 32) : Fin 2 → Nat :=
  let c30 : Index := 30#32
  let arg1 : BitVec 32 := BitVec.ofNat 32 (i 1).val
  let c2_i32_837 : BitVec 32 := 2#32
  let v1500 : BitVec 32 := Scalar.muli arg1 c2_i32_837
  let v1501 : BitVec 32 := Scalar.addi v1500 c0_i32_838
  let v1502 : Index := Scalar.indexCast v1501
  ![30, v1502.toNat]
def k0_off62 (i : grid0.Coords) (c0_i32_841 : BitVec 32) : Fin 2 → Nat :=
  let c30_842 : Index := 30#32
  let c144_i32_840 : BitVec 32 := 144#32
  let arg1 : BitVec 32 := BitVec.ofNat 32 (i 1).val
  let c2_i32_839 : BitVec 32 := 2#32
  let v1504 : BitVec 32 := Scalar.muli arg1 c2_i32_839
  let v1505 : BitVec 32 := Scalar.addi c144_i32_840 v1504
  let v1506 : BitVec 32 := Scalar.addi v1505 c0_i32_841
  let v1507 : Index := Scalar.indexCast v1506
  ![30, v1507.toNat]
def k0_off63 (i : grid0.Coords) (c0_i32_866 : BitVec 32) : Fin 2 → Nat :=
  let c31 : Index := 31#32
  let arg1 : BitVec 32 := BitVec.ofNat 32 (i 1).val
  let c2_i32_865 : BitVec 32 := 2#32
  let v1550 : BitVec 32 := Scalar.muli arg1 c2_i32_865
  let v1551 : BitVec 32 := Scalar.addi v1550 c0_i32_866
  let v1552 : Index := Scalar.indexCast v1551
  ![31, v1552.toNat]
def k0_off64 (i : grid0.Coords) (c0_i32_869 : BitVec 32) : Fin 2 → Nat :=
  let c31_870 : Index := 31#32
  let c144_i32_868 : BitVec 32 := 144#32
  let arg1 : BitVec 32 := BitVec.ofNat 32 (i 1).val
  let c2_i32_867 : BitVec 32 := 2#32
  let v1554 : BitVec 32 := Scalar.muli arg1 c2_i32_867
  let v1555 : BitVec 32 := Scalar.addi c144_i32_868 v1554
  let v1556 : BitVec 32 := Scalar.addi v1555 c0_i32_869
  let v1557 : Index := Scalar.indexCast v1556
  ![31, v1557.toNat]
def k0_off65 (i : grid0.Coords) (c0_i32_894 : BitVec 32) : Fin 2 → Nat :=
  let c32 : Index := 32#32
  let arg1 : BitVec 32 := BitVec.ofNat 32 (i 1).val
  let c2_i32_893 : BitVec 32 := 2#32
  let v1600 : BitVec 32 := Scalar.muli arg1 c2_i32_893
  let v1601 : BitVec 32 := Scalar.addi v1600 c0_i32_894
  let v1602 : Index := Scalar.indexCast v1601
  ![32, v1602.toNat]
def k0_off66 (i : grid0.Coords) (c0_i32_897 : BitVec 32) : Fin 2 → Nat :=
  let c32_898 : Index := 32#32
  let c144_i32_896 : BitVec 32 := 144#32
  let arg1 : BitVec 32 := BitVec.ofNat 32 (i 1).val
  let c2_i32_895 : BitVec 32 := 2#32
  let v1604 : BitVec 32 := Scalar.muli arg1 c2_i32_895
  let v1605 : BitVec 32 := Scalar.addi c144_i32_896 v1604
  let v1606 : BitVec 32 := Scalar.addi v1605 c0_i32_897
  let v1607 : Index := Scalar.indexCast v1606
  ![32, v1607.toNat]
def k0_off67 (i : grid0.Coords) (c0_i32_922 : BitVec 32) : Fin 2 → Nat :=
  let c33 : Index := 33#32
  let arg1 : BitVec 32 := BitVec.ofNat 32 (i 1).val
  let c2_i32_921 : BitVec 32 := 2#32
  let v1650 : BitVec 32 := Scalar.muli arg1 c2_i32_921
  let v1651 : BitVec 32 := Scalar.addi v1650 c0_i32_922
  let v1652 : Index := Scalar.indexCast v1651
  ![33, v1652.toNat]
def k0_off68 (i : grid0.Coords) (c0_i32_925 : BitVec 32) : Fin 2 → Nat :=
  let c33_926 : Index := 33#32
  let c144_i32_924 : BitVec 32 := 144#32
  let arg1 : BitVec 32 := BitVec.ofNat 32 (i 1).val
  let c2_i32_923 : BitVec 32 := 2#32
  let v1654 : BitVec 32 := Scalar.muli arg1 c2_i32_923
  let v1655 : BitVec 32 := Scalar.addi c144_i32_924 v1654
  let v1656 : BitVec 32 := Scalar.addi v1655 c0_i32_925
  let v1657 : Index := Scalar.indexCast v1656
  ![33, v1657.toNat]
def k0_off69 (i : grid0.Coords) (c0_i32_950 : BitVec 32) : Fin 2 → Nat :=
  let c34 : Index := 34#32
  let arg1 : BitVec 32 := BitVec.ofNat 32 (i 1).val
  let c2_i32_949 : BitVec 32 := 2#32
  let v1700 : BitVec 32 := Scalar.muli arg1 c2_i32_949
  let v1701 : BitVec 32 := Scalar.addi v1700 c0_i32_950
  let v1702 : Index := Scalar.indexCast v1701
  ![34, v1702.toNat]
def k0_off70 (i : grid0.Coords) (c0_i32_953 : BitVec 32) : Fin 2 → Nat :=
  let c34_954 : Index := 34#32
  let c144_i32_952 : BitVec 32 := 144#32
  let arg1 : BitVec 32 := BitVec.ofNat 32 (i 1).val
  let c2_i32_951 : BitVec 32 := 2#32
  let v1704 : BitVec 32 := Scalar.muli arg1 c2_i32_951
  let v1705 : BitVec 32 := Scalar.addi c144_i32_952 v1704
  let v1706 : BitVec 32 := Scalar.addi v1705 c0_i32_953
  let v1707 : Index := Scalar.indexCast v1706
  ![34, v1707.toNat]
def k0_off71 (i : grid0.Coords) (c0_i32_978 : BitVec 32) : Fin 2 → Nat :=
  let c35 : Index := 35#32
  let arg1 : BitVec 32 := BitVec.ofNat 32 (i 1).val
  let c2_i32_977 : BitVec 32 := 2#32
  let v1750 : BitVec 32 := Scalar.muli arg1 c2_i32_977
  let v1751 : BitVec 32 := Scalar.addi v1750 c0_i32_978
  let v1752 : Index := Scalar.indexCast v1751
  ![35, v1752.toNat]
def k0_off72 (i : grid0.Coords) (c0_i32_981 : BitVec 32) : Fin 2 → Nat :=
  let c35_982 : Index := 35#32
  let c144_i32_980 : BitVec 32 := 144#32
  let arg1 : BitVec 32 := BitVec.ofNat 32 (i 1).val
  let c2_i32_979 : BitVec 32 := 2#32
  let v1754 : BitVec 32 := Scalar.muli arg1 c2_i32_979
  let v1755 : BitVec 32 := Scalar.addi c144_i32_980 v1754
  let v1756 : BitVec 32 := Scalar.addi v1755 c0_i32_981
  let v1757 : Index := Scalar.indexCast v1756
  ![35, v1757.toNat]
def k0_off73 (i : grid0.Coords) (c0_i32_1006 : BitVec 32) : Fin 2 → Nat :=
  let c36 : Index := 36#32
  let arg1 : BitVec 32 := BitVec.ofNat 32 (i 1).val
  let c2_i32_1005 : BitVec 32 := 2#32
  let v1800 : BitVec 32 := Scalar.muli arg1 c2_i32_1005
  let v1801 : BitVec 32 := Scalar.addi v1800 c0_i32_1006
  let v1802 : Index := Scalar.indexCast v1801
  ![36, v1802.toNat]
def k0_off74 (i : grid0.Coords) (c0_i32_1009 : BitVec 32) : Fin 2 → Nat :=
  let c36_1010 : Index := 36#32
  let c144_i32_1008 : BitVec 32 := 144#32
  let arg1 : BitVec 32 := BitVec.ofNat 32 (i 1).val
  let c2_i32_1007 : BitVec 32 := 2#32
  let v1804 : BitVec 32 := Scalar.muli arg1 c2_i32_1007
  let v1805 : BitVec 32 := Scalar.addi c144_i32_1008 v1804
  let v1806 : BitVec 32 := Scalar.addi v1805 c0_i32_1009
  let v1807 : Index := Scalar.indexCast v1806
  ![36, v1807.toNat]
def k0_off75 (i : grid0.Coords) (c0_i32_1034 : BitVec 32) : Fin 2 → Nat :=
  let c37 : Index := 37#32
  let arg1 : BitVec 32 := BitVec.ofNat 32 (i 1).val
  let c2_i32_1033 : BitVec 32 := 2#32
  let v1850 : BitVec 32 := Scalar.muli arg1 c2_i32_1033
  let v1851 : BitVec 32 := Scalar.addi v1850 c0_i32_1034
  let v1852 : Index := Scalar.indexCast v1851
  ![37, v1852.toNat]
def k0_off76 (i : grid0.Coords) (c0_i32_1037 : BitVec 32) : Fin 2 → Nat :=
  let c37_1038 : Index := 37#32
  let c144_i32_1036 : BitVec 32 := 144#32
  let arg1 : BitVec 32 := BitVec.ofNat 32 (i 1).val
  let c2_i32_1035 : BitVec 32 := 2#32
  let v1854 : BitVec 32 := Scalar.muli arg1 c2_i32_1035
  let v1855 : BitVec 32 := Scalar.addi c144_i32_1036 v1854
  let v1856 : BitVec 32 := Scalar.addi v1855 c0_i32_1037
  let v1857 : Index := Scalar.indexCast v1856
  ![37, v1857.toNat]
def k0_off77 (i : grid0.Coords) (c0_i32_1062 : BitVec 32) : Fin 2 → Nat :=
  let c38 : Index := 38#32
  let arg1 : BitVec 32 := BitVec.ofNat 32 (i 1).val
  let c2_i32_1061 : BitVec 32 := 2#32
  let v1900 : BitVec 32 := Scalar.muli arg1 c2_i32_1061
  let v1901 : BitVec 32 := Scalar.addi v1900 c0_i32_1062
  let v1902 : Index := Scalar.indexCast v1901
  ![38, v1902.toNat]
def k0_off78 (i : grid0.Coords) (c0_i32_1065 : BitVec 32) : Fin 2 → Nat :=
  let c38_1066 : Index := 38#32
  let c144_i32_1064 : BitVec 32 := 144#32
  let arg1 : BitVec 32 := BitVec.ofNat 32 (i 1).val
  let c2_i32_1063 : BitVec 32 := 2#32
  let v1904 : BitVec 32 := Scalar.muli arg1 c2_i32_1063
  let v1905 : BitVec 32 := Scalar.addi c144_i32_1064 v1904
  let v1906 : BitVec 32 := Scalar.addi v1905 c0_i32_1065
  let v1907 : Index := Scalar.indexCast v1906
  ![38, v1907.toNat]
def k0_off79 (i : grid0.Coords) (c0_i32_1090 : BitVec 32) : Fin 2 → Nat :=
  let c39 : Index := 39#32
  let arg1 : BitVec 32 := BitVec.ofNat 32 (i 1).val
  let c2_i32_1089 : BitVec 32 := 2#32
  let v1950 : BitVec 32 := Scalar.muli arg1 c2_i32_1089
  let v1951 : BitVec 32 := Scalar.addi v1950 c0_i32_1090
  let v1952 : Index := Scalar.indexCast v1951
  ![39, v1952.toNat]
def k0_off80 (i : grid0.Coords) (c0_i32_1093 : BitVec 32) : Fin 2 → Nat :=
  let c39_1094 : Index := 39#32
  let c144_i32_1092 : BitVec 32 := 144#32
  let arg1 : BitVec 32 := BitVec.ofNat 32 (i 1).val
  let c2_i32_1091 : BitVec 32 := 2#32
  let v1954 : BitVec 32 := Scalar.muli arg1 c2_i32_1091
  let v1955 : BitVec 32 := Scalar.addi c144_i32_1092 v1954
  let v1956 : BitVec 32 := Scalar.addi v1955 c0_i32_1093
  let v1957 : Index := Scalar.indexCast v1956
  ![39, v1957.toNat]
def k0_off81 (i : grid0.Coords) (c0_i32_1118 : BitVec 32) : Fin 2 → Nat :=
  let c40 : Index := 40#32
  let arg1 : BitVec 32 := BitVec.ofNat 32 (i 1).val
  let c2_i32_1117 : BitVec 32 := 2#32
  let v2000 : BitVec 32 := Scalar.muli arg1 c2_i32_1117
  let v2001 : BitVec 32 := Scalar.addi v2000 c0_i32_1118
  let v2002 : Index := Scalar.indexCast v2001
  ![40, v2002.toNat]
def k0_off82 (i : grid0.Coords) (c0_i32_1121 : BitVec 32) : Fin 2 → Nat :=
  let c40_1122 : Index := 40#32
  let c144_i32_1120 : BitVec 32 := 144#32
  let arg1 : BitVec 32 := BitVec.ofNat 32 (i 1).val
  let c2_i32_1119 : BitVec 32 := 2#32
  let v2004 : BitVec 32 := Scalar.muli arg1 c2_i32_1119
  let v2005 : BitVec 32 := Scalar.addi c144_i32_1120 v2004
  let v2006 : BitVec 32 := Scalar.addi v2005 c0_i32_1121
  let v2007 : Index := Scalar.indexCast v2006
  ![40, v2007.toNat]
def k0_off83 (i : grid0.Coords) (c0_i32_1146 : BitVec 32) : Fin 2 → Nat :=
  let c41 : Index := 41#32
  let arg1 : BitVec 32 := BitVec.ofNat 32 (i 1).val
  let c2_i32_1145 : BitVec 32 := 2#32
  let v2050 : BitVec 32 := Scalar.muli arg1 c2_i32_1145
  let v2051 : BitVec 32 := Scalar.addi v2050 c0_i32_1146
  let v2052 : Index := Scalar.indexCast v2051
  ![41, v2052.toNat]
def k0_off84 (i : grid0.Coords) (c0_i32_1149 : BitVec 32) : Fin 2 → Nat :=
  let c41_1150 : Index := 41#32
  let c144_i32_1148 : BitVec 32 := 144#32
  let arg1 : BitVec 32 := BitVec.ofNat 32 (i 1).val
  let c2_i32_1147 : BitVec 32 := 2#32
  let v2054 : BitVec 32 := Scalar.muli arg1 c2_i32_1147
  let v2055 : BitVec 32 := Scalar.addi c144_i32_1148 v2054
  let v2056 : BitVec 32 := Scalar.addi v2055 c0_i32_1149
  let v2057 : Index := Scalar.indexCast v2056
  ![41, v2057.toNat]
def k0_off85 (i : grid0.Coords) (c0_i32_1174 : BitVec 32) : Fin 2 → Nat :=
  let c42 : Index := 42#32
  let arg1 : BitVec 32 := BitVec.ofNat 32 (i 1).val
  let c2_i32_1173 : BitVec 32 := 2#32
  let v2100 : BitVec 32 := Scalar.muli arg1 c2_i32_1173
  let v2101 : BitVec 32 := Scalar.addi v2100 c0_i32_1174
  let v2102 : Index := Scalar.indexCast v2101
  ![42, v2102.toNat]
def k0_off86 (i : grid0.Coords) (c0_i32_1177 : BitVec 32) : Fin 2 → Nat :=
  let c42_1178 : Index := 42#32
  let c144_i32_1176 : BitVec 32 := 144#32
  let arg1 : BitVec 32 := BitVec.ofNat 32 (i 1).val
  let c2_i32_1175 : BitVec 32 := 2#32
  let v2104 : BitVec 32 := Scalar.muli arg1 c2_i32_1175
  let v2105 : BitVec 32 := Scalar.addi c144_i32_1176 v2104
  let v2106 : BitVec 32 := Scalar.addi v2105 c0_i32_1177
  let v2107 : Index := Scalar.indexCast v2106
  ![42, v2107.toNat]
def k0_off87 (i : grid0.Coords) (c0_i32_1202 : BitVec 32) : Fin 2 → Nat :=
  let c43 : Index := 43#32
  let arg1 : BitVec 32 := BitVec.ofNat 32 (i 1).val
  let c2_i32_1201 : BitVec 32 := 2#32
  let v2150 : BitVec 32 := Scalar.muli arg1 c2_i32_1201
  let v2151 : BitVec 32 := Scalar.addi v2150 c0_i32_1202
  let v2152 : Index := Scalar.indexCast v2151
  ![43, v2152.toNat]
def k0_off88 (i : grid0.Coords) (c0_i32_1205 : BitVec 32) : Fin 2 → Nat :=
  let c43_1206 : Index := 43#32
  let c144_i32_1204 : BitVec 32 := 144#32
  let arg1 : BitVec 32 := BitVec.ofNat 32 (i 1).val
  let c2_i32_1203 : BitVec 32 := 2#32
  let v2154 : BitVec 32 := Scalar.muli arg1 c2_i32_1203
  let v2155 : BitVec 32 := Scalar.addi c144_i32_1204 v2154
  let v2156 : BitVec 32 := Scalar.addi v2155 c0_i32_1205
  let v2157 : Index := Scalar.indexCast v2156
  ![43, v2157.toNat]
def k0_off89 (i : grid0.Coords) (c0_i32_1230 : BitVec 32) : Fin 2 → Nat :=
  let c44 : Index := 44#32
  let arg1 : BitVec 32 := BitVec.ofNat 32 (i 1).val
  let c2_i32_1229 : BitVec 32 := 2#32
  let v2200 : BitVec 32 := Scalar.muli arg1 c2_i32_1229
  let v2201 : BitVec 32 := Scalar.addi v2200 c0_i32_1230
  let v2202 : Index := Scalar.indexCast v2201
  ![44, v2202.toNat]
def k0_off90 (i : grid0.Coords) (c0_i32_1233 : BitVec 32) : Fin 2 → Nat :=
  let c44_1234 : Index := 44#32
  let c144_i32_1232 : BitVec 32 := 144#32
  let arg1 : BitVec 32 := BitVec.ofNat 32 (i 1).val
  let c2_i32_1231 : BitVec 32 := 2#32
  let v2204 : BitVec 32 := Scalar.muli arg1 c2_i32_1231
  let v2205 : BitVec 32 := Scalar.addi c144_i32_1232 v2204
  let v2206 : BitVec 32 := Scalar.addi v2205 c0_i32_1233
  let v2207 : Index := Scalar.indexCast v2206
  ![44, v2207.toNat]
def k0_off91 (i : grid0.Coords) (c0_i32_1258 : BitVec 32) : Fin 2 → Nat :=
  let c45 : Index := 45#32
  let arg1 : BitVec 32 := BitVec.ofNat 32 (i 1).val
  let c2_i32_1257 : BitVec 32 := 2#32
  let v2250 : BitVec 32 := Scalar.muli arg1 c2_i32_1257
  let v2251 : BitVec 32 := Scalar.addi v2250 c0_i32_1258
  let v2252 : Index := Scalar.indexCast v2251
  ![45, v2252.toNat]
def k0_off92 (i : grid0.Coords) (c0_i32_1261 : BitVec 32) : Fin 2 → Nat :=
  let c45_1262 : Index := 45#32
  let c144_i32_1260 : BitVec 32 := 144#32
  let arg1 : BitVec 32 := BitVec.ofNat 32 (i 1).val
  let c2_i32_1259 : BitVec 32 := 2#32
  let v2254 : BitVec 32 := Scalar.muli arg1 c2_i32_1259
  let v2255 : BitVec 32 := Scalar.addi c144_i32_1260 v2254
  let v2256 : BitVec 32 := Scalar.addi v2255 c0_i32_1261
  let v2257 : Index := Scalar.indexCast v2256
  ![45, v2257.toNat]
def k0_off93 (i : grid0.Coords) (c0_i32_1286 : BitVec 32) : Fin 2 → Nat :=
  let c46 : Index := 46#32
  let arg1 : BitVec 32 := BitVec.ofNat 32 (i 1).val
  let c2_i32_1285 : BitVec 32 := 2#32
  let v2300 : BitVec 32 := Scalar.muli arg1 c2_i32_1285
  let v2301 : BitVec 32 := Scalar.addi v2300 c0_i32_1286
  let v2302 : Index := Scalar.indexCast v2301
  ![46, v2302.toNat]
def k0_off94 (i : grid0.Coords) (c0_i32_1289 : BitVec 32) : Fin 2 → Nat :=
  let c46_1290 : Index := 46#32
  let c144_i32_1288 : BitVec 32 := 144#32
  let arg1 : BitVec 32 := BitVec.ofNat 32 (i 1).val
  let c2_i32_1287 : BitVec 32 := 2#32
  let v2304 : BitVec 32 := Scalar.muli arg1 c2_i32_1287
  let v2305 : BitVec 32 := Scalar.addi c144_i32_1288 v2304
  let v2306 : BitVec 32 := Scalar.addi v2305 c0_i32_1289
  let v2307 : Index := Scalar.indexCast v2306
  ![46, v2307.toNat]
def k0_off95 (i : grid0.Coords) (c0_i32_1314 : BitVec 32) : Fin 2 → Nat :=
  let c47 : Index := 47#32
  let arg1 : BitVec 32 := BitVec.ofNat 32 (i 1).val
  let c2_i32_1313 : BitVec 32 := 2#32
  let v2350 : BitVec 32 := Scalar.muli arg1 c2_i32_1313
  let v2351 : BitVec 32 := Scalar.addi v2350 c0_i32_1314
  let v2352 : Index := Scalar.indexCast v2351
  ![47, v2352.toNat]
def k0_off96 (i : grid0.Coords) (c0_i32_1317 : BitVec 32) : Fin 2 → Nat :=
  let c47_1318 : Index := 47#32
  let c144_i32_1316 : BitVec 32 := 144#32
  let arg1 : BitVec 32 := BitVec.ofNat 32 (i 1).val
  let c2_i32_1315 : BitVec 32 := 2#32
  let v2354 : BitVec 32 := Scalar.muli arg1 c2_i32_1315
  let v2355 : BitVec 32 := Scalar.addi c144_i32_1316 v2354
  let v2356 : BitVec 32 := Scalar.addi v2355 c0_i32_1317
  let v2357 : Index := Scalar.indexCast v2356
  ![47, v2357.toNat]
def k0_off97 (i : grid0.Coords) (c0_i32_1342 : BitVec 32) : Fin 2 → Nat :=
  let c48 : Index := 48#32
  let arg1 : BitVec 32 := BitVec.ofNat 32 (i 1).val
  let c2_i32_1341 : BitVec 32 := 2#32
  let v2400 : BitVec 32 := Scalar.muli arg1 c2_i32_1341
  let v2401 : BitVec 32 := Scalar.addi v2400 c0_i32_1342
  let v2402 : Index := Scalar.indexCast v2401
  ![48, v2402.toNat]
def k0_off98 (i : grid0.Coords) (c0_i32_1345 : BitVec 32) : Fin 2 → Nat :=
  let c48_1346 : Index := 48#32
  let c144_i32_1344 : BitVec 32 := 144#32
  let arg1 : BitVec 32 := BitVec.ofNat 32 (i 1).val
  let c2_i32_1343 : BitVec 32 := 2#32
  let v2404 : BitVec 32 := Scalar.muli arg1 c2_i32_1343
  let v2405 : BitVec 32 := Scalar.addi c144_i32_1344 v2404
  let v2406 : BitVec 32 := Scalar.addi v2405 c0_i32_1345
  let v2407 : Index := Scalar.indexCast v2406
  ![48, v2407.toNat]
def k0_off99 (i : grid0.Coords) (c0_i32_1370 : BitVec 32) : Fin 2 → Nat :=
  let c49 : Index := 49#32
  let arg1 : BitVec 32 := BitVec.ofNat 32 (i 1).val
  let c2_i32_1369 : BitVec 32 := 2#32
  let v2450 : BitVec 32 := Scalar.muli arg1 c2_i32_1369
  let v2451 : BitVec 32 := Scalar.addi v2450 c0_i32_1370
  let v2452 : Index := Scalar.indexCast v2451
  ![49, v2452.toNat]
def k0_off100 (i : grid0.Coords) (c0_i32_1373 : BitVec 32) : Fin 2 → Nat :=
  let c49_1374 : Index := 49#32
  let c144_i32_1372 : BitVec 32 := 144#32
  let arg1 : BitVec 32 := BitVec.ofNat 32 (i 1).val
  let c2_i32_1371 : BitVec 32 := 2#32
  let v2454 : BitVec 32 := Scalar.muli arg1 c2_i32_1371
  let v2455 : BitVec 32 := Scalar.addi c144_i32_1372 v2454
  let v2456 : BitVec 32 := Scalar.addi v2455 c0_i32_1373
  let v2457 : Index := Scalar.indexCast v2456
  ![49, v2457.toNat]
def k0_off101 (i : grid0.Coords) (c0_i32_1398 : BitVec 32) : Fin 2 → Nat :=
  let c50 : Index := 50#32
  let arg1 : BitVec 32 := BitVec.ofNat 32 (i 1).val
  let c2_i32_1397 : BitVec 32 := 2#32
  let v2500 : BitVec 32 := Scalar.muli arg1 c2_i32_1397
  let v2501 : BitVec 32 := Scalar.addi v2500 c0_i32_1398
  let v2502 : Index := Scalar.indexCast v2501
  ![50, v2502.toNat]
def k0_off102 (i : grid0.Coords) (c0_i32_1401 : BitVec 32) : Fin 2 → Nat :=
  let c50_1402 : Index := 50#32
  let c144_i32_1400 : BitVec 32 := 144#32
  let arg1 : BitVec 32 := BitVec.ofNat 32 (i 1).val
  let c2_i32_1399 : BitVec 32 := 2#32
  let v2504 : BitVec 32 := Scalar.muli arg1 c2_i32_1399
  let v2505 : BitVec 32 := Scalar.addi c144_i32_1400 v2504
  let v2506 : BitVec 32 := Scalar.addi v2505 c0_i32_1401
  let v2507 : Index := Scalar.indexCast v2506
  ![50, v2507.toNat]
def k0_off103 (i : grid0.Coords) (c0_i32_1426 : BitVec 32) : Fin 2 → Nat :=
  let c51 : Index := 51#32
  let arg1 : BitVec 32 := BitVec.ofNat 32 (i 1).val
  let c2_i32_1425 : BitVec 32 := 2#32
  let v2550 : BitVec 32 := Scalar.muli arg1 c2_i32_1425
  let v2551 : BitVec 32 := Scalar.addi v2550 c0_i32_1426
  let v2552 : Index := Scalar.indexCast v2551
  ![51, v2552.toNat]
def k0_off104 (i : grid0.Coords) (c0_i32_1429 : BitVec 32) : Fin 2 → Nat :=
  let c51_1430 : Index := 51#32
  let c144_i32_1428 : BitVec 32 := 144#32
  let arg1 : BitVec 32 := BitVec.ofNat 32 (i 1).val
  let c2_i32_1427 : BitVec 32 := 2#32
  let v2554 : BitVec 32 := Scalar.muli arg1 c2_i32_1427
  let v2555 : BitVec 32 := Scalar.addi c144_i32_1428 v2554
  let v2556 : BitVec 32 := Scalar.addi v2555 c0_i32_1429
  let v2557 : Index := Scalar.indexCast v2556
  ![51, v2557.toNat]
def k0_off105 (i : grid0.Coords) (c0_i32_1454 : BitVec 32) : Fin 2 → Nat :=
  let c52 : Index := 52#32
  let arg1 : BitVec 32 := BitVec.ofNat 32 (i 1).val
  let c2_i32_1453 : BitVec 32 := 2#32
  let v2600 : BitVec 32 := Scalar.muli arg1 c2_i32_1453
  let v2601 : BitVec 32 := Scalar.addi v2600 c0_i32_1454
  let v2602 : Index := Scalar.indexCast v2601
  ![52, v2602.toNat]
def k0_off106 (i : grid0.Coords) (c0_i32_1457 : BitVec 32) : Fin 2 → Nat :=
  let c52_1458 : Index := 52#32
  let c144_i32_1456 : BitVec 32 := 144#32
  let arg1 : BitVec 32 := BitVec.ofNat 32 (i 1).val
  let c2_i32_1455 : BitVec 32 := 2#32
  let v2604 : BitVec 32 := Scalar.muli arg1 c2_i32_1455
  let v2605 : BitVec 32 := Scalar.addi c144_i32_1456 v2604
  let v2606 : BitVec 32 := Scalar.addi v2605 c0_i32_1457
  let v2607 : Index := Scalar.indexCast v2606
  ![52, v2607.toNat]
def k0_off107 (i : grid0.Coords) (c0_i32_1482 : BitVec 32) : Fin 2 → Nat :=
  let c53 : Index := 53#32
  let arg1 : BitVec 32 := BitVec.ofNat 32 (i 1).val
  let c2_i32_1481 : BitVec 32 := 2#32
  let v2650 : BitVec 32 := Scalar.muli arg1 c2_i32_1481
  let v2651 : BitVec 32 := Scalar.addi v2650 c0_i32_1482
  let v2652 : Index := Scalar.indexCast v2651
  ![53, v2652.toNat]
def k0_off108 (i : grid0.Coords) (c0_i32_1485 : BitVec 32) : Fin 2 → Nat :=
  let c53_1486 : Index := 53#32
  let c144_i32_1484 : BitVec 32 := 144#32
  let arg1 : BitVec 32 := BitVec.ofNat 32 (i 1).val
  let c2_i32_1483 : BitVec 32 := 2#32
  let v2654 : BitVec 32 := Scalar.muli arg1 c2_i32_1483
  let v2655 : BitVec 32 := Scalar.addi c144_i32_1484 v2654
  let v2656 : BitVec 32 := Scalar.addi v2655 c0_i32_1485
  let v2657 : Index := Scalar.indexCast v2656
  ![53, v2657.toNat]
def k0_off109 (i : grid0.Coords) (c0_i32_1510 : BitVec 32) : Fin 2 → Nat :=
  let c54 : Index := 54#32
  let arg1 : BitVec 32 := BitVec.ofNat 32 (i 1).val
  let c2_i32_1509 : BitVec 32 := 2#32
  let v2700 : BitVec 32 := Scalar.muli arg1 c2_i32_1509
  let v2701 : BitVec 32 := Scalar.addi v2700 c0_i32_1510
  let v2702 : Index := Scalar.indexCast v2701
  ![54, v2702.toNat]
def k0_off110 (i : grid0.Coords) (c0_i32_1513 : BitVec 32) : Fin 2 → Nat :=
  let c54_1514 : Index := 54#32
  let c144_i32_1512 : BitVec 32 := 144#32
  let arg1 : BitVec 32 := BitVec.ofNat 32 (i 1).val
  let c2_i32_1511 : BitVec 32 := 2#32
  let v2704 : BitVec 32 := Scalar.muli arg1 c2_i32_1511
  let v2705 : BitVec 32 := Scalar.addi c144_i32_1512 v2704
  let v2706 : BitVec 32 := Scalar.addi v2705 c0_i32_1513
  let v2707 : Index := Scalar.indexCast v2706
  ![54, v2707.toNat]
def k0_off111 (i : grid0.Coords) (c0_i32_1538 : BitVec 32) : Fin 2 → Nat :=
  let c55 : Index := 55#32
  let arg1 : BitVec 32 := BitVec.ofNat 32 (i 1).val
  let c2_i32_1537 : BitVec 32 := 2#32
  let v2750 : BitVec 32 := Scalar.muli arg1 c2_i32_1537
  let v2751 : BitVec 32 := Scalar.addi v2750 c0_i32_1538
  let v2752 : Index := Scalar.indexCast v2751
  ![55, v2752.toNat]
def k0_off112 (i : grid0.Coords) (c0_i32_1541 : BitVec 32) : Fin 2 → Nat :=
  let c55_1542 : Index := 55#32
  let c144_i32_1540 : BitVec 32 := 144#32
  let arg1 : BitVec 32 := BitVec.ofNat 32 (i 1).val
  let c2_i32_1539 : BitVec 32 := 2#32
  let v2754 : BitVec 32 := Scalar.muli arg1 c2_i32_1539
  let v2755 : BitVec 32 := Scalar.addi c144_i32_1540 v2754
  let v2756 : BitVec 32 := Scalar.addi v2755 c0_i32_1541
  let v2757 : Index := Scalar.indexCast v2756
  ![55, v2757.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c72_i32 : BitVec 32 := 72#32
  let v0 : BitVec 32 := Scalar.addi arg1 c72_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S7168x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S7168x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .smem S56x288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S6144x7168 : Shape := ⟨2, ![6144, 7168]⟩
abbrev S7168x36864 : Shape := ⟨2, ![7168, 36864]⟩
abbrev S56x288 : Shape := ⟨2, ![56, 288]⟩
abbrev S6144x18432 : Shape := ⟨2, ![6144, 18432]⟩
abbrev S56x128x288x128 : Shape := ⟨4, ![56, 128, 288, 128]⟩
abbrev S56x1x288x1 : Shape := ⟨4, ![56, 1, 288, 1]⟩
abbrev S6144x36864 : Shape := ⟨2, ![6144, 36864]⟩

abbrev nBuf : Space → Nat
  | .hbm => 4
  | .vmem => 4
  | .smem => 0
  | _ => 0

abbrev bufTy : (tb : Table) → Fin (tcTables nBuf tb) → BufTy
  | .hbm, ⟨0, _⟩ => ⟨S6144x7168, .bf16⟩
  | .hbm, ⟨1, _⟩ => ⟨S7168x36864, .fp8e4m3⟩
  | .hbm, ⟨2, _⟩ => ⟨S56x288, .f32⟩
  | .hbm, ⟨3, _⟩ => ⟨S6144x18432, .bf16⟩
  | .local _ .vmem, ⟨0, _⟩ => ⟨S6144x7168, .bf16⟩
  | .local _ .vmem, ⟨1, _⟩ => ⟨S7168x36864, .fp8e4m3⟩
  | .local _ .vmem, ⟨2, _⟩ => ⟨S56x288, .f32⟩
  | .local _ .vmem, ⟨3, _⟩ => ⟨S6144x18432, .bf16⟩
  | _, _ => ⟨S6144x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6144x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x36864 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S56x288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x18432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Shared.lean ====
abbrev S6144x2048 : Shape := ⟨2, ![6144, 2048]⟩
abbrev S6144x16 : Shape := ⟨2, ![6144, 16]⟩
abbrev S2048x7168 : Shape := ⟨2, ![2048, 7168]⟩
abbrev S16x56 : Shape := ⟨2, ![16, 56]⟩
abbrev S6144x7168 : Shape := ⟨2, ![6144, 7168]⟩
abbrev S1024x2048 : Shape := ⟨2, ![1024, 2048]⟩
abbrev S1024x16 : Shape := ⟨2, ![1024, 16]⟩
abbrev S2048x1024 : Shape := ⟨2, ![2048, 1024]⟩
abbrev S1024x1024 : Shape := ⟨2, ![1024, 1024]⟩
abbrev S1024x1 : Shape := ⟨2, ![1024, 1]⟩
abbrev S1024x128 : Shape := ⟨2, ![1024, 128]⟩
abbrev S1x1 : Shape := ⟨2, ![1, 1]⟩
abbrev S128x128 : Shape := ⟨2, ![128, 128]⟩

abbrev nBuf : Space → Nat
  | .hbm => 6
  | .vmem => 12
  | .smem => 1
  | _ => 0

abbrev bufTy : (tb : Table) → Fin (tcTables nBuf tb) → BufTy
  | .hbm, ⟨0, _⟩ => ⟨S6144x2048, .fp8e4m3⟩
  | .hbm, ⟨1, _⟩ => ⟨S6144x16, .f32⟩
  | .hbm, ⟨2, _⟩ => ⟨S2048x7168, .fp8e4m3⟩
  | .hbm, ⟨3, _⟩ => ⟨S16x56, .f32⟩
  | .hbm, ⟨4, _⟩ => ⟨S6144x7168, .bf16⟩
  | .hbm, ⟨5, _⟩ => ⟨S6144x7168, .f32⟩
  | .local _ .vmem, ⟨0, _⟩ => ⟨S1024x2048, .fp8e4m3⟩
  | .local _ .vmem, ⟨1, _⟩ => ⟨S1024x2048, .fp8e4m3⟩
  | .local _ .vmem, ⟨2, _⟩ => ⟨S1024x16, .f32⟩
  | .local _ .vmem, ⟨3, _⟩ => ⟨S1024x16, .f32⟩
  | .local _ .vmem, ⟨4, _⟩ => ⟨S2048x1024, .fp8e4m3⟩
  | .local _ .vmem, ⟨5, _⟩ => ⟨S2048x1024, .fp8e4m3⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x2048, .bf16⟩
  | .local _ .vmem, ⟨11, _⟩ => ⟨S2048x1024, .bf16⟩
  | .local _ .smem, ⟨0, _⟩ => ⟨S16x56, .f32⟩
  | _, _ => ⟨S6144x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![6, 7], ![false, false]⟩

def k0_off1 (i : grid0.Coords) (c0_i32_1 : BitVec 32) : Fin 2 → Nat :=
  let c0 : Index := 0#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v5 : Index := Scalar.indexCast v4
  ![0, v5.toNat]
def k0_off2 (i : grid0.Coords) (c0_i32_42 : BitVec 32) : Fin 2 → Nat :=
  let c1 : Index := 1#32
  let arg1 : BitVec 32 := BitVec.ofNat 32 (i 1).val
  let c8_i32_41 : BitVec 32 := 8#32
  let v99 : BitVec 32 := Scalar.muli arg1 c8_i32_41
  let v100 : BitVec 32 := Scalar.addi v99 c0_i32_42
  let v101 : Index := Scalar.indexCast v100
  ![1, v101.toNat]
def k0_off3 (i : grid0.Coords) (c0_i32_97 : BitVec 32) : Fin 2 → Nat :=
  let c2 : Index := 2#32
  let arg1 : BitVec 32 := BitVec.ofNat 32 (i 1).val
  let c8_i32_96 : BitVec 32 := 8#32
  let v195 : BitVec 32 := Scalar.muli arg1 c8_i32_96
  let v196 : BitVec 32 := Scalar.addi v195 c0_i32_97
  let v197 : Index := Scalar.indexCast v196
  ![2, v197.toNat]
def k0_off4 (i : grid0.Coords) (c0_i32_152 : BitVec 32) : Fin 2 → Nat :=
  let c3 : Index := 3#32
  let arg1 : BitVec 32 := BitVec.ofNat 32 (i 1).val
  let c8_i32_151 : BitVec 32 := 8#32
  let v291 : BitVec 32 := Scalar.muli arg1 c8_i32_151
  let v292 : BitVec 32 := Scalar.addi v291 c0_i32_152
  let v293 : Index := Scalar.indexCast v292
  ![3, v293.toNat]
def k0_off5 (i : grid0.Coords) (c0_i32_207 : BitVec 32) : Fin 2 → Nat :=
  let c4 : Index := 4#32
  let arg1 : BitVec 32 := BitVec.ofNat 32 (i 1).val
  let c8_i32_206 : BitVec 32 := 8#32
  let v387 : BitVec 32 := Scalar.muli arg1 c8_i32_206
  let v388 : BitVec 32 := Scalar.addi v387 c0_i32_207
  let v389 : Index := Scalar.indexCast v388
  ![4, v389.toNat]
def k0_off6 (i : grid0.Coords) (c0_i32_262 : BitVec 32) : Fin 2 → Nat :=
  let c5 : Index := 5#32
  let arg1 : BitVec 32 := BitVec.ofNat 32 (i 1).val
  let c8_i32_261 : BitVec 32 := 8#32
  let v483 : BitVec 32 := Scalar.muli arg1 c8_i32_261
  let v484 : BitVec 32 := Scalar.addi v483 c0_i32_262
  let v485 : Index := Scalar.indexCast v484
  ![5, v485.toNat]
def k0_off7 (i : grid0.Coords) (c0_i32_317 : BitVec 32) : Fin 2 → Nat :=
  let c6 : Index := 6#32
  let arg1 : BitVec 32 := BitVec.ofNat 32 (i 1).val
  let c8_i32_316 : BitVec 32 := 8#32
  let v579 : BitVec 32 := Scalar.muli arg1 c8_i32_316
  let v580 : BitVec 32 := Scalar.addi v579 c0_i32_317
  let v581 : Index := Scalar.indexCast v580
  ![6, v581.toNat]
def k0_off8 (i : grid0.Coords) (c0_i32_372 : BitVec 32) : Fin 2 → Nat :=
  let c7 : Index := 7#32
  let arg1 : BitVec 32 := BitVec.ofNat 32 (i 1).val
  let c8_i32_371 : BitVec 32 := 8#32
  let v675 : BitVec 32 := Scalar.muli arg1 c8_i32_371
  let v676 : BitVec 32 := Scalar.addi v675 c0_i32_372
  let v677 : Index := Scalar.indexCast v676
  ![7, v677.toNat]
def k0_off9 (i : grid0.Coords) (c0_i32_427 : BitVec 32) : Fin 2 → Nat :=
  let c8 : Index := 8#32
  let arg1 : BitVec 32 := BitVec.ofNat 32 (i 1).val
  let c8_i32_426 : BitVec 32 := 8#32
  let v771 : BitVec 32 := Scalar.muli arg1 c8_i32_426
  let v772 : BitVec 32 := Scalar.addi v771 c0_i32_427
  let v773 : Index := Scalar.indexCast v772
  ![8, v773.toNat]
def k0_off10 (i : grid0.Coords) (c0_i32_481 : BitVec 32) : Fin 2 → Nat :=
  let c9 : Index := 9#32
  let arg1 : BitVec 32 := BitVec.ofNat 32 (i 1).val
  let c8_i32_480 : BitVec 32 := 8#32
  let v867 : BitVec 32 := Scalar.muli arg1 c8_i32_480
  let v868 : BitVec 32 := Scalar.addi v867 c0_i32_481
  let v869 : Index := Scalar.indexCast v868
  ![9, v869.toNat]
def k0_off11 (i : grid0.Coords) (c0_i32_535 : BitVec 32) : Fin 2 → Nat :=
  let c10 : Index := 10#32
  let arg1 : BitVec 32 := BitVec.ofNat 32 (i 1).val
  let c8_i32_534 : BitVec 32 := 8#32
  let v963 : BitVec 32 := Scalar.muli arg1 c8_i32_534
  let v964 : BitVec 32 := Scalar.addi v963 c0_i32_535
  let v965 : Index := Scalar.indexCast v964
  ![10, v965.toNat]
def k0_off12 (i : grid0.Coords) (c0_i32_589 : BitVec 32) : Fin 2 → Nat :=
  let c11 : Index := 11#32
  let arg1 : BitVec 32 := BitVec.ofNat 32 (i 1).val
  let c8_i32_588 : BitVec 32 := 8#32
  let v1059 : BitVec 32 := Scalar.muli arg1 c8_i32_588
  let v1060 : BitVec 32 := Scalar.addi v1059 c0_i32_589
  let v1061 : Index := Scalar.indexCast v1060
  ![11, v1061.toNat]
def k0_off13 (i : grid0.Coords) (c0_i32_643 : BitVec 32) : Fin 2 → Nat :=
  let c12 : Index := 12#32
  let arg1 : BitVec 32 := BitVec.ofNat 32 (i 1).val
  let c8_i32_642 : BitVec 32 := 8#32
  let v1155 : BitVec 32 := Scalar.muli arg1 c8_i32_642
  let v1156 : BitVec 32 := Scalar.addi v1155 c0_i32_643
  let v1157 : Index := Scalar.indexCast v1156
  ![12, v1157.toNat]
def k0_off14 (i : grid0.Coords) (c0_i32_697 : BitVec 32) : Fin 2 → Nat :=
  let c13 : Index := 13#32
  let arg1 : BitVec 32 := BitVec.ofNat 32 (i 1).val
  let c8_i32_696 : BitVec 32 := 8#32
  let v1251 : BitVec 32 := Scalar.muli arg1 c8_i32_696
  let v1252 : BitVec 32 := Scalar.addi v1251 c0_i32_697
  let v1253 : Index := Scalar.indexCast v1252
  ![13, v1253.toNat]
def k0_off15 (i : grid0.Coords) (c0_i32_751 : BitVec 32) : Fin 2 → Nat :=
  let c14 : Index := 14#32
  let arg1 : BitVec 32 := BitVec.ofNat 32 (i 1).val
  let c8_i32_750 : BitVec 32 := 8#32
  let v1347 : BitVec 32 := Scalar.muli arg1 c8_i32_750
  let v1348 : BitVec 32 := Scalar.addi v1347 c0_i32_751
  let v1349 : Index := Scalar.indexCast v1348
  ![14, v1349.toNat]
def k0_off16 (i : grid0.Coords) (c0_i32_805 : BitVec 32) : Fin 2 → Nat :=
  let c15 : Index := 15#32
  let arg1 : BitVec 32 := BitVec.ofNat 32 (i 1).val
  let c8_i32_804 : BitVec 32 := 8#32
  let v1443 : BitVec 32 := Scalar.muli arg1 c8_i32_804
  let v1444 : BitVec 32 := Scalar.addi v1443 c0_i32_805
  let v1445 : Index := Scalar.indexCast v1444
  ![15, v1445.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .smem S16x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SharedReferenceIdeal.lean ====
abbrev S6144x2048 : Shape := ⟨2, ![6144, 2048]⟩
abbrev S6144x16 : Shape := ⟨2, ![6144, 16]⟩
abbrev S2048x7168 : Shape := ⟨2, ![2048, 7168]⟩
abbrev S16x56 : Shape := ⟨2, ![16, 56]⟩
abbrev S6144x7168 : Shape := ⟨2, ![6144, 7168]⟩
abbrev S6144x16x128 : Shape := ⟨3, ![6144, 16, 128]⟩
abbrev S6144x16x1 : Shape := ⟨3, ![6144, 16, 1]⟩
abbrev S16x128x56x128 : Shape := ⟨4, ![16, 128, 56, 128]⟩
abbrev S16x1x56x1 : Shape := ⟨4, ![16, 1, 56, 1]⟩

abbrev nBuf : Space → Nat
  | .hbm => 6
  | .vmem => 6
  | .smem => 0
  | _ => 0

abbrev bufTy : (tb : Table) → Fin (tcTables nBuf tb) → BufTy
  | .hbm, ⟨0, _⟩ => ⟨S6144x2048, .fp8e4m3⟩
  | .hbm, ⟨1, _⟩ => ⟨S6144x16, .f32⟩
  | .hbm, ⟨2, _⟩ => ⟨S2048x7168, .fp8e4m3⟩
  | .hbm, ⟨3, _⟩ => ⟨S16x56, .f32⟩
  | .hbm, ⟨4, _⟩ => ⟨S6144x7168, .bf16⟩
  | .hbm, ⟨5, _⟩ => ⟨S6144x7168, .f32⟩
  | .local _ .vmem, ⟨0, _⟩ => ⟨S6144x2048, .fp8e4m3⟩
  | .local _ .vmem, ⟨1, _⟩ => ⟨S6144x16, .f32⟩
  | .local _ .vmem, ⟨2, _⟩ => ⟨S2048x7168, .fp8e4m3⟩
  | .local _ .vmem, ⟨3, _⟩ => ⟨S16x56, .f32⟩
  | .local _ .vmem, ⟨4, _⟩ => ⟨S6144x7168, .bf16⟩
  | .local _ .vmem, ⟨5, _⟩ => ⟨S6144x7168, .f32⟩
  | _, _ => ⟨S6144x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Body.lean ====
module

public import proofs.«01_k».proof.Proof.Gen.KernelIdeal.Value
public import Idealize.ShloMosaic.Lib.Pipeline.ValueKit
public import Idealize.ShloMosaic.Lib.Pipeline.ReadBack
public import Idealize.ShloMosaic.Lib.ValueIdx

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Where a weight block's entry `y` finds its scale: the row group of `y`, and the column group counted from
    the block column `2 * j` of half `h` (0 is gate, 1 is up). -/
def scaleAt (h : Fin 2) (j : Fin 72) (y : S7168x256.Idx) : S56x288.Idx :=
  ValueIdx.ix2 (⟨(y 0).val / 128, by have := (y 0).isLt; have : S7168x256.size 0 = 7168 := rfl; omega⟩ : Fin 56)
    (⟨144 * h.val + 2 * j.val + (y 1).val / 128, by
      have := (y 1).isLt; have : S7168x256.size 1 = 256 := rfl; omega⟩ : Fin 288)

/-- A block of codes with each code multiplied by its group's scale. -/
def wide (h : Fin 2) (j : Fin 72) (w : Vec Ideal S7168x256 .fp8e4m3) (s : Vec Ideal S56x288 .f32) :
    Vec Ideal S7168x256 .bf16 := fun y => (w y : EReal) * s (scaleAt h j y)

/-- A tile of codes times one scale, as the kernel stores it. -/
abbrev tile (v : Elt Ideal .f32) (b : Vec Ideal S128x128 .fp8e4m3) : FVec Ideal S128x128 .bf16 :=
  shapeCast S128x128 (mulf (extf .bf16 b bitsLt_fp8e4m3_bf16)
    (truncf .bf16 (broadcast S128x128 v : FVec Ideal S128x128 .f32) bitsLt_bf16_f32)) shapeCasts_S128x128_S128x128

theorem tile_apply (v : Elt Ideal .f32) (b : Vec Ideal S128x128 .fp8e4m3) (x : S128x128.Idx) :
    tile v b x = (b x : EReal) * v := by
  unfold tile
  rw [shapeCast_self]
  rfl

/-- One stored tile is the block of `wide` under its rectangle. -/
theorem piece (h : Fin 2) (j : Fin 72) (w : Vec Ideal S7168x256 .fp8e4m3) (s : Vec Ideal S56x288 .f32)
    (off : Fin 2 → ℕ) (inbs : ∀ a, off a + S1x1.size a ≤ S56x288.size a) (o : Fin 2 → ℕ)
    (inb : ∀ a, o a + S128x128.size a ≤ S7168x256.size a) (r q : ℕ) (hr : o 0 = 128 * r) (hq : o 1 = 128 * q)
    (hoff : off = ![r, 144 * h.val + 2 * j.val + q]) (hn : 0 < S1x1.numel) (x : S128x128.Idx) :
    tile (View.ld s (Rect.unit (s := S56x288) off S1x1.size inbs) (Shape.Idx.first hn))
        (View.ld w (Rect.unit (s := S7168x256) o S128x128.size inb)) x
      = wide h j w s ((Rect.unit (s := S7168x256) o S128x128.size inb).emb x) := by
  rw [tile_apply]
  unfold wide
  have hx0 : (x 0).val < 128 := (x 0).isLt
  have hx1 : (x 1).val < 128 := (x 1).isLt
  have e0 : (((Rect.unit (s := S7168x256) o S128x128.size inb).emb x) 0).val = o 0 + (x 0).val :=
    Rect.idx_unit_val (s := S7168x256) o S128x128.size inb x 0
  have e1 : (((Rect.unit (s := S7168x256) o S128x128.size inb).emb x) 1).val = o 1 + (x 1).val :=
    Rect.idx_unit_val (s := S7168x256) o S128x128.size inb x 1
  refine congrArg₂ (fun a b : EReal => a * b) rfl (View.ld_unit_apply_of _ _ _ _ _ _ fun a => ?_)
  subst hoff
  match a with
  | ⟨0, _⟩ =>
    show (((Rect.unit (s := S7168x256) o S128x128.size inb).emb x) 0).val / 128 = r + 0
    omega
  | ⟨1, _⟩ =>
    show 144 * h.val + 2 * j.val + (((Rect.unit (s := S7168x256) o S128x128.size inb).emb x) 1).val / 128
      = 144 * h.val + 2 * j.val + q + 0
    omega

/-- `piece` at the offsets the kernel computes for a gate tile. -/
theorem gate_piece (i : grid0.Coords) (w : Vec Ideal S7168x256 .fp8e4m3) (s : Vec Ideal S56x288 .f32)
    (c : BitVec 32) (o : Fin 2 → ℕ) (inb : ∀ a, o a + S128x128.size a ≤ S7168x256.size a) (r q : ℕ) (hc : c = BitVec.ofNat 32 q)
    (hr : o 0 = 128 * r) (hq : o 1 = 128 * q) (hq2 : q < 2)
    (inbs : ∀ a, (![r, (Scalar.indexCast (Scalar.addi (Scalar.muli (BitVec.ofNat 32 (i 1).val) 2#32) c)).toNat] : Fin 2 → ℕ) a
      + S1x1.size a ≤ S56x288.size a) (hn : 0 < S1x1.numel) (x : S128x128.Idx) :
    tile (View.ld s (Rect.unit (s := S56x288) _ S1x1.size inbs) (Shape.Idx.first hn))
        (View.ld w (Rect.unit (s := S7168x256) o S128x128.size inb)) x
      = wide 0 (i 1) w s ((Rect.unit (s := S7168x256) o S128x128.size inb).emb x) := by
  refine piece 0 (i 1) w s _ inbs o inb r q hr hq ?_ hn x
  subst hc
  refine (congrArg (fun f : Fin 2 → ℕ => (![r, f 1] : Fin 2 → ℕ)) (k0_off1_eq i ⟨q, hq2⟩)).trans ?_
  exact congrArg (fun z : ℕ => (![r, z] : Fin 2 → ℕ)) (by show 2 * (i 1).val + q = 144 * 0 + 2 * (i 1).val + q; omega)

/-- `piece` at the offsets the kernel computes for an up tile. -/
theorem up_piece (i : grid0.Coords) (w : Vec Ideal S7168x256 .fp8e4m3) (s : Vec Ideal S56x288 .f32)
    (c : BitVec 32) (o : Fin 2 → ℕ) (inb : ∀ a, o a + S128x128.size a ≤ S7168x256.size a) (r q : ℕ) (hc : c = BitVec.ofNat 32 q)
    (hr : o 0 = 128 * r) (hq : o 1 = 128 * q) (hq2 : q < 2)
    (inbs : ∀ a, (![r, (Scalar.indexCast (Scalar.addi (Scalar.addi 144#32 (Scalar.muli (BitVec.ofNat 32 (i 1).val) 2#32)) c)).toNat] : Fin 2 → ℕ) a
      + S1x1.size a ≤ S56x288.size a) (hn : 0 < S1x1.numel) (x : S128x128.Idx) :
    tile (View.ld s (Rect.unit (s := S56x288) _ S1x1.size inbs) (Shape.Idx.first hn))
        (View.ld w (Rect.unit (s := S7168x256) o S128x128.size inb)) x
      = wide 1 (i 1) w s ((Rect.unit (s := S7168x256) o S128x128.size inb).emb x) := by
  refine piece 1 (i 1) w s _ inbs o inb r q hr hq ?_ hn x
  subst hc
  refine (congrArg (fun f : Fin 2 → ℕ => (![r, f 1] : Fin 2 → ℕ)) (k0_off2_eq i ⟨q, hq2⟩)).trans ?_
  exact congrArg (fun z : ℕ => (![r, z] : Fin 2 → ℕ)) (by show 2 * (i 1).val + q + 144 = 144 * 1 + 2 * (i 1).val + q; omega)

/-- A buffer stored tile by tile, each tile a block of `G`, reads whole as `G`. -/
theorem readCov_of_pieces (v : View sig .tc .vmem S7168x256 .bf16) (L : List (View.Piece (Elt Ideal) S7168x256 .bf16))
    (G : Vec Ideal S7168x256 .bf16) (hL : View.PiecesOf G L) (hc : ∀ y : S7168x256.Idx, ∃ p ∈ L, y ∈ p.1.set) :
    v.readCov L (Rect.unit (s := S7168x256) ![0, 0] S7168x256.size inb_S7168x256_S7168x256_0_0).toLoadRect = G := by
  rw [View.readCov_eq_canon']
  funext y
  rw [View.canon_apply_of_pieces G L hL.mem _ (hc _)]
  refine congrArg G (funext fun a => Fin.ext ?_)
  match a with
  | ⟨0, _⟩ => exact (Rect.idx_unit_val (s := S7168x256) ![0, 0] S7168x256.size inb_S7168x256_S7168x256_0_0 y 0).trans (Nat.zero_add _)
  | ⟨1, _⟩ => exact (Rect.idx_unit_val (s := S7168x256) ![0, 0] S7168x256.size inb_S7168x256_S7168x256_0_0 y 1).trans (Nat.zero_add _)

/-- The product of an activation block with the widened gate (or up) block. -/
abbrev prod (h : Fin 2) (j : Fin 72) (a : Vec Ideal S1024x7168 .bf16) (w : Vec Ideal S7168x256 .fp8e4m3) (s : Vec Ideal S56x288 .f32) :
    FVec Ideal S1024x256 .f32 :=
  matmul (φ₁ := .bf16) (φ₂ := .bf16) dot_S1024x7168_S7168x256_S1024x256_1_0_0_1_n_n none a (wide h j w s) (constant S1024x256 .f32 0x00000000#32)

set_option maxHeartbeats 4000000 in
/-- What the body leaves in the output block: the 224 stored tiles are the two widened blocks, which the products read whole. -/
theorem outs_eq (c : Dev nD) (t : Fin cfg0.N) :
    outsAt0 m c t = k0_pay1 (prod 0 (grid0.coords t 1) (iblk m c 0 t) (iblk m c 1 t) (iblk m c 3 t))
      (prod 1 (grid0.coords t 1) (iblk m c 0 t) (iblk m c 2 t) (iblk m c 3 t)) := by
  unfold outsAt0
  frame_open
  frame_out
  funext y
  rw [readCov_of_pieces _ _ (wide 0 (grid0.coords t 1) (iblk m c 1 t) (iblk m c 3 t)) ?p0 ?c0,
    readCov_of_pieces _ _ (wide 1 (grid0.coords t 1) (iblk m c 2 t) (iblk m c 3 t)) ?p1 ?c1]
  case p0 =>
    iterate 112 refine ⟨fun x => gate_piece _ _ _ _ _ _ _ _ rfl rfl rfl (by decide) _ _ x, ?_⟩
    exact trivial
  case p1 =>
    iterate 112 refine ⟨fun x => up_piece _ _ _ _ _ _ _ _ rfl rfl rfl (by decide) _ _ x, ?_⟩
    exact trivial
  case c0 => exact View.cover_of_tiledL _ S128x128.size (by sl_kernel_rfl)
  case c1 => exact View.cover_of_tiledL _ S128x128.size (by sl_kernel_rfl)
  rfl

end Cert.KernelIdeal.Body

end
-- ==== Proof.Spec.lean ====
/- What the gate-up call computes, entry by entry, over the extended reals. -/
module

public import Idealize.ShloMosaic.PureOps.Ideal.Laws
public import Idealize.ShloMosaic.Lib.ValueIdx

@[expose] public section

noncomputable section

namespace Cert.GateUp

open Idealize.ShloMosaic

/-- Entry `(k, n)` of the weights: the code times the scale of its 128 × 128 block. -/
def weight (w : Vec Ideal ⟨2, ![7168, 36864]⟩ .fp8e4m3) (s : Vec Ideal ⟨2, ![56, 288]⟩ .f32)
    (k : Fin 7168) (n : Fin 36864) : EReal :=
  w (ValueIdx.ix2 k n) * s (ValueIdx.ix2 (⟨k.val / 128, by omega⟩ : Fin 56) (⟨n.val / 128, by omega⟩ : Fin 288))

/-- Entry `(r, n)` of the activation times the weights. -/
def dotAt (a : Vec Ideal ⟨2, ![6144, 7168]⟩ .bf16) (w : Vec Ideal ⟨2, ![7168, 36864]⟩ .fp8e4m3)
    (s : Vec Ideal ⟨2, ![56, 288]⟩ .f32) (r : Fin 6144) (n : Fin 36864) : EReal :=
  ∑ k : Fin 7168, a (ValueIdx.ix2 r k) * weight w s k n

/-- `silu g * u`. -/
def swiglu (g u : EReal) : EReal := g * Ideal.logistic g * u

/-- Entry `(r, n)` of the result: `silu` of the gate half's product, times the up half's. -/
def outAt (a : Vec Ideal ⟨2, ![6144, 7168]⟩ .bf16) (w : Vec Ideal ⟨2, ![7168, 36864]⟩ .fp8e4m3)
    (s : Vec Ideal ⟨2, ![56, 288]⟩ .f32) (r : Fin 6144) (n : Fin 18432) : EReal :=
  swiglu (dotAt a w s r ⟨n.val, by omega⟩) (dotAt a w s r ⟨18432 + n.val, by omega⟩)

/-- The result array. -/
def out (a : Vec Ideal ⟨2, ![6144, 7168]⟩ .bf16) (w : Vec Ideal ⟨2, ![7168, 36864]⟩ .fp8e4m3)
    (s : Vec Ideal ⟨2, ![56, 288]⟩ .f32) : Vec Ideal ⟨2, ![6144, 18432]⟩ .bf16 :=
  fun y => outAt a w s (y 0) (y 1)

end Cert.GateUp

end
-- ==== Proof.Array.lean ====
module

public import proofs.«01_k».proof.Proof.Body
public import proofs.«01_k».proof.Proof.Spec
public import Idealize.ShloMosaic.Lib.MatmulPlain
public import Idealize.ShloMosaic.Lib.Pipeline.Covers

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.Pipeline (Dat)
open Cert.GateUp

variable (m : (ℓ : Loc nD τ sig) → Buf (Elt Ideal) ℓ) (ρ : Dev nD → PrngReg)

/-- Which block each window holds at a point: the activation's row block, -/
theorem idx0 : ∀ t : Fin cfg0.N, win0_0.index t = ![(grid0.coords t 0).val, 0] :=
  (by decide +kernel : ∀ t : Fin grid0.N, _)
/-- the gate half's column block, -/
theorem idx1 : ∀ t : Fin cfg0.N, win0_1.index t = ![0, (grid0.coords t 1).val] :=
  (by decide +kernel : ∀ t : Fin grid0.N, _)
/-- the up half's column block, 72 blocks further, -/
theorem idx2 : ∀ t : Fin cfg0.N, win0_2.index t = ![0, (grid0.coords t 1).val + 72] :=
  (by decide +kernel : ∀ t : Fin grid0.N, _)
/-- all of the scales, -/
theorem idx3 : ∀ t : Fin cfg0.N, win0_3.index t = ![0, 0] :=
  (by decide +kernel : ∀ t : Fin grid0.N, _)
/-- and the result's block. -/
theorem idx4 : ∀ t : Fin cfg0.N, win0_4.index t = ![(grid0.coords t 0).val, (grid0.coords t 1).val] :=
  (by decide +kernel : ∀ t : Fin grid0.N, _)

/-- The output blocks cover the result. -/
theorem covers : (cfg0.win 4).Covers :=
  (cfg0.win 4).covers_of_index_surj rfl (by decide) fun β => by
    have b0 : (β (0 : Fin 2)).val < 6 := (β (0 : Fin 2)).isLt
    have b1 : (β (1 : Fin 2)).val < 72 := (β (1 : Fin 2)).isLt
    obtain ⟨t, ht⟩ := grid0.coords_surjective
      (fun | ⟨0, _⟩ => (⟨(β (0 : Fin 2)).val, b0⟩ : Fin 6) | ⟨1, _⟩ => (⟨(β (1 : Fin 2)).val, b1⟩ : Fin 72))
    refine ⟨t, fun a => ?_⟩
    show win0_4.index t a = _
    rw [idx4 t, ht]
    match a with
    | ⟨0, _⟩ => rfl
    | ⟨1, _⟩ => rfl

/-- A product's entry. -/
theorem prod_apply (h : Fin 2) (j : Fin 72) (a : Vec Ideal S1024x7168 .bf16) (w : Vec Ideal S7168x256 .fp8e4m3)
    (s : Vec Ideal S56x288 .f32) (r : Fin 1024) (q : Fin 256) :
    prod h j a w s (ValueIdx.ix2 r q) = ∑ k : Fin 7168, a (ValueIdx.ix2 r k) * wide h j w s (ValueIdx.ix2 k q) := by
  refine (Ideal.matmul_plain_apply (φ₁ := .bf16) (φ₂ := .bf16) none a (wide h j w s)
    (constant S1024x256 .f32 0x00000000#32) r q).trans ?_
  show Ideal.ofBits .f32 0x00000000#32 + _ = _
  rw [Ideal.ofBits_zero_f32, zero_add]

/-- The activation block's entries. -/
theorem blk0 (c : Dev nD) (t : Fin cfg0.N) (r : Fin 1024) (k : Fin 7168) :
    iblk m c 0 t (ValueIdx.ix2 r k) = m ((c : Thread nD τ).loc main_arg0)
      (ValueIdx.ix2 (⟨1024 * (grid0.coords t 0).val + r.val, by
        have : (grid0.coords t 0).val < 6 := (grid0.coords t 0).isLt; omega⟩ : Fin 6144) k) := by
  have e : ((ValueIdx.ix2 r k : S1024x7168.Idx) 0).val = r.val := rfl
  blk_ext! [iblk, V, idx0 t] <;> omega

/-- The widened gate block's entries. -/
theorem wide0 (c : Dev nD) (t : Fin cfg0.N) (k : Fin 7168) (q : Fin 256) :
    wide 0 (grid0.coords t 1) (iblk m c 1 t) (iblk m c 3 t) (ValueIdx.ix2 k q)
      = weight (m ((c : Thread nD τ).loc main_arg1)) (m ((c : Thread nD τ).loc main_arg2)) k
        ⟨256 * (grid0.coords t 1).val + q.val, by
          have : (grid0.coords t 1).val < 72 := (grid0.coords t 1).isLt; omega⟩ := by
  unfold wide weight scaleAt
  have e0 : ((ValueIdx.ix2 k q : S7168x256.Idx) 0).val = k.val := rfl
  have e1 : ((ValueIdx.ix2 k q : S7168x256.Idx) 1).val = q.val := rfl
  refine congrArg₂ (fun a b : EReal => a * b) ?_ ?_
  · blk_ext! [iblk, V, idx1 t] <;> omega
  · blk_ext! [iblk, V, idx3 t] <;> omega

/-- The widened up block's entries. -/
theorem wide1 (c : Dev nD) (t : Fin cfg0.N) (k : Fin 7168) (q : Fin 256) :
    wide 1 (grid0.coords t 1) (iblk m c 2 t) (iblk m c 3 t) (ValueIdx.ix2 k q)
      = weight (m ((c : Thread nD τ).loc main_arg1)) (m ((c : Thread nD τ).loc main_arg2)) k
        ⟨18432 + (256 * (grid0.coords t 1).val + q.val), by
          have : (grid0.coords t 1).val < 72 := (grid0.coords t 1).isLt; omega⟩ := by
  unfold wide weight scaleAt
  have e0 : ((ValueIdx.ix2 k q : S7168x256.Idx) 0).val = k.val := rfl
  have e1 : ((ValueIdx.ix2 k q : S7168x256.Idx) 1).val = q.val := rfl
  refine congrArg₂ (fun a b : EReal => a * b) ?_ ?_
  · blk_ext! [iblk, V, idx2 t] <;> omega
  · blk_ext! [iblk, V, idx3 t] <;> omega

/-- The result array after the run. -/
theorem final (c : Dev nD) : (dats m 0 c).arrAt 4 cfg0.N
    = out (m ((c : Thread nD τ).loc main_arg0)) (m ((c : Thread nD τ).loc main_arg1)) (m ((c : Thread nD τ).loc main_arg2)) := by
  refine (dats m 0 c).arrAt_eq_of_covers 4 _ covers fun t hf y => ?_
  blk_simp
  rw [after0_4, outs_eq]
  have hy0 : (y 0).val < 1024 := (y 0).isLt
  have hy1 : (y 1).val < 256 := (y 1).isLt
  have h0 : (grid0.coords t 0).val < 6 := (grid0.coords t 0).isLt
  have h1 : (grid0.coords t 1).val < 72 := (grid0.coords t 1).isLt
  have hi : ((cfg0.win 4).blk t).view.emb y = ValueIdx.ix2 (⟨1024 * (grid0.coords t 0).val + (y 0).val, by omega⟩ : Fin 6144)
      (⟨256 * (grid0.coords t 1).val + (y 1).val, by omega⟩ : Fin 18432) := by
    blk_ext [idx4 t]
  have hyy : y = ValueIdx.ix2 (⟨(y 0).val, hy0⟩ : Fin 1024) (⟨(y 1).val, hy1⟩ : Fin 256) := by
    funext a
    match a with
    | ⟨0, _⟩ => rfl
    | ⟨1, _⟩ => rfl
  rw [show ((win0_4.blk t).view.emb y) = _ from hi]
  obtain ⟨r, q, rfl⟩ : ∃ (r : Fin 1024) (q : Fin 256), y = ValueIdx.ix2 r q := ⟨_, _, hyy⟩
  show swiglu (prod 0 (grid0.coords t 1) (iblk m c 0 t) (iblk m c 1 t) (iblk m c 3 t) (ValueIdx.ix2 r q))
      (prod 1 (grid0.coords t 1) (iblk m c 0 t) (iblk m c 2 t) (iblk m c 3 t) (ValueIdx.ix2 r q)) = outAt _ _ _ _ _
  unfold outAt
  refine congrArg₂ swiglu ((prod_apply _ _ _ _ _ r q).trans (Finset.sum_congr rfl fun k _ => ?_))
    ((prod_apply _ _ _ _ _ r q).trans (Finset.sum_congr rfl fun k _ => ?_))
  · exact congrArg₂ (fun a b : EReal => a * b) (blk0 m c t r k) (wide0 m c t k q)
  · exact congrArg₂ (fun a b : EReal => a * b) (blk0 m c t r k) (wide1 m c t k q)

end Cert.KernelIdeal.Body

end
-- ==== Proof.Ref.lean ====
/- The reference's one payload, read at an entry. -/
module

public import proofs.«01_k».proof.Proof.Gen.ReferenceIdeal.Value
public import proofs.«01_k».proof.Proof.Spec
public import Idealize.ShloMosaic.Lib.MatmulPlain
public import Idealize.ShloMosaic.Lib.Pipeline.ValueKit

@[expose] public section

set_option maxRecDepth 16384

noncomputable section

namespace Cert.ReferenceIdeal.Body

open Cert.ReferenceIdeal Cert.ReferenceIdeal.Gen Idealize.ShloMosaic Idealize.ShloMosaic.TcCoe Idealize.SL.Sem
open Cert.GateUp

/-- The reference's widened weights: split into 128 × 128 blocks, scaled block by block, joined again. -/
abbrev wide (w : Vec Ideal S7168x36864 .fp8e4m3) (s : Vec Ideal S56x288 .f32) : FVec Ideal S7168x36864 .bf16 :=
  shapeCast S7168x36864
    (mulf (shapeCast S56x128x288x128 (extf .bf16 w bitsLt_fp8e4m3_bf16 : FVec Ideal S7168x36864 .bf16) shapeCasts_S7168x36864_S56x128x288x128)
      (broadcastTo S56x128x288x128 (shapeCast S56x1x288x1 (truncf .bf16 s bitsLt_bf16_f32 : FVec Ideal S56x288 .bf16) shapeCasts_S56x288_S56x1x288x1)
        broadcasts_S56x1x288x1_S56x128x288x128))
    shapeCasts_S56x128x288x128_S7168x36864

theorem wide_apply (w : Vec Ideal S7168x36864 .fp8e4m3) (s : Vec Ideal S56x288 .f32) (k : Fin 7168) (n : Fin 36864) :
    wide w s (ValueIdx.ix2 k n) = weight w s k n := by
  unfold wide
  have hk := Nat.div_add_mod k.val 128
  have hn := Nat.div_add_mod n.val 128
  have ek := Nat.mod_lt k.val (by decide : 0 < 128)
  have en := Nat.mod_lt n.val (by decide : 0 < 128)
  let i4 : S56x128x288x128.Idx := ValueIdx.ix4 (⟨k.val / 128, by omega⟩ : Fin 56) (⟨k.val % 128, ek⟩ : Fin 128)
    (⟨n.val / 128, by omega⟩ : Fin 288) (⟨n.val % 128, en⟩ : Fin 128)
  rw [shapeCast_apply _ _ (ValueIdx.ix2 k n) i4 (by
    rw [Shape.rowMajor_val_two, Shape.rowMajor_val_four]
    show ((k.val / 128 * 128 + k.val % 128) * 288 + n.val / 128) * 128 + n.val % 128 = k.val * 36864 + n.val
    omega)]
  unfold weight
  refine congrArg₂ (fun a b : EReal => a * b) ?_ ?_
  · exact shapeCast_apply _ _ i4 (ValueIdx.ix2 k n) (by
      rw [Shape.rowMajor_val_two, Shape.rowMajor_val_four]
      show k.val * 36864 + n.val = ((k.val / 128 * 128 + k.val % 128) * 288 + n.val / 128) * 128 + n.val % 128
      omega)
  · refine (broadcastTo_apply _ _ i4 (ValueIdx.ix4 (⟨k.val / 128, by omega⟩ : Fin 56) (0 : Fin 1) (⟨n.val / 128, by omega⟩ : Fin 288) (0 : Fin 1)) ?_).trans ?_
    · intro b
      match b with
      | ⟨0, _⟩ => rfl
      | ⟨1, _⟩ => rfl
      | ⟨2, _⟩ => rfl
      | ⟨3, _⟩ => rfl
    · exact shapeCast_apply _ _ _ (ValueIdx.ix2 (⟨k.val / 128, by omega⟩ : Fin 56) (⟨n.val / 128, by omega⟩ : Fin 288)) (by
        rw [Shape.rowMajor_val_two, Shape.rowMajor_val_four]
        show k.val / 128 * 288 + n.val / 128 = ((k.val / 128 * 1 + 0) * 288 + n.val / 128) * 1 + 0
        omega)

/-- What the reference does with the product: `silu` of its left half times its right half. -/
abbrev tail (M : FVec Ideal S6144x36864 .f32) : FVec Ideal S6144x18432 .bf16 :=
  truncf .bf16 (mulf (mulf (extractStridedSlice S6144x18432 ![0, 0] M slices_S6144x36864_o0_0_S6144x18432)
      (logistic (extractStridedSlice S6144x18432 ![0, 0] M slices_S6144x36864_o0_0_S6144x18432)))
    (extractStridedSlice S6144x18432 ![0, 18432] M slices_S6144x36864_o0_18432_S6144x18432)) bitsLt_bf16_f32

theorem tail_apply (M : FVec Ideal S6144x36864 .f32) (r : Fin 6144) (n : Fin 18432) :
    tail M (ValueIdx.ix2 r n) = swiglu (M (ValueIdx.ix2 r (⟨n.val, by omega⟩ : Fin 36864)))
      (M (ValueIdx.ix2 r (⟨18432 + n.val, by omega⟩ : Fin 36864))) := by
  have hl : extractStridedSlice S6144x18432 ![0, 0] M slices_S6144x36864_o0_0_S6144x18432 (ValueIdx.ix2 r n)
      = M (ValueIdx.ix2 r (⟨n.val, by omega⟩ : Fin 36864)) :=
    extractStridedSlice_apply _ _ _ _ _ fun b => by
      match b with
      | ⟨0, _⟩ => show r.val = 0 + r.val; omega
      | ⟨1, _⟩ => show n.val = 0 + n.val; omega
  have hr : extractStridedSlice S6144x18432 ![0, 18432] M slices_S6144x36864_o0_18432_S6144x18432 (ValueIdx.ix2 r n)
      = M (ValueIdx.ix2 r (⟨18432 + n.val, by omega⟩ : Fin 36864)) :=
    extractStridedSlice_apply _ _ _ _ _ fun b => by
      match b with
      | ⟨0, _⟩ => show r.val = 0 + r.val; omega
      | ⟨1, _⟩ => rfl
  exact congrArg₂ swiglu hl hr

/-- The reference's product of the activation with its widened weights. -/
abbrev prod (a : Vec Ideal S6144x7168 .bf16) (w : Vec Ideal S7168x36864 .fp8e4m3) (s : Vec Ideal S56x288 .f32) :
    FVec Ideal S6144x36864 .f32 :=
  matmul (φ₁ := .bf16) (φ₂ := .bf16) dot_S6144x7168_S7168x36864_S6144x36864_1_0_0_1_n_n none a (wide w s)
    (constant S6144x36864 .f32 0x00000000#32)

theorem prod_apply (a : Vec Ideal S6144x7168 .bf16) (w : Vec Ideal S7168x36864 .fp8e4m3) (s : Vec Ideal S56x288 .f32)
    (r : Fin 6144) (n : Fin 36864) : prod a w s (ValueIdx.ix2 r n) = dotAt a w s r n := by
  refine (Ideal.matmul_plain_apply (φ₁ := .bf16) (φ₂ := .bf16) none a (wide w s)
    (constant S6144x36864 .f32 0x00000000#32) r n).trans ?_
  show Ideal.ofBits .f32 0x00000000#32 + _ = _
  rw [Ideal.ofBits_zero_f32, zero_add]
  exact Finset.sum_congr rfl fun k _ => congrArg (fun b : EReal => a (ValueIdx.ix2 r k) * b) (wide_apply w s k n)

theorem pay_tail (a : Vec Ideal S6144x7168 .bf16) (w : Vec Ideal S7168x36864 .fp8e4m3) (s : Vec Ideal S56x288 .f32) :
    k0_pay1 w s a = tail (prod a w s) := rfl

/-- The reference's payload is the result array. -/
theorem pay_eq (a : Vec Ideal S6144x7168 .bf16) (w : Vec Ideal S7168x36864 .fp8e4m3) (s : Vec Ideal S56x288 .f32) :
    k0_pay1 w s a = out a w s := by
  rw [pay_tail]
  funext y
  obtain ⟨r, n, rfl⟩ : ∃ (r : Fin 6144) (n : Fin 18432), y = ValueIdx.ix2 r n := ⟨y 0, y 1, by
    funext b
    match b with
    | ⟨0, _⟩ => rfl
    | ⟨1, _⟩ => rfl⟩
  exact (tail_apply _ r n).trans (congrArg₂ swiglu (prod_apply a w s r _) (prod_apply a w s r _))

end Cert.ReferenceIdeal.Body

end
-- ==== Proof.SharedBody.lean ====
/- What the shared call's body leaves: the carried activation scratch and the output block. -/
module

public import proofs.«01_k».proof.Proof.Gen.SharedIdeal.Value
public import Idealize.ShloMosaic.Lib.Pipeline.ValueKit
public import Idealize.ShloMosaic.Lib.Pipeline.ReadBack
public import Idealize.ShloMosaic.Lib.ValueIdx

@[expose] public section

set_option maxRecDepth 16384

noncomputable section

namespace Cert.SharedIdeal.Body

open Cert.SharedIdeal Cert.SharedIdeal.Gen Idealize.ShloMosaic Idealize.ShloMosaic.TcCoe Idealize.SL.Sem
open Idealize.ShloMosaic.Pipeline (Dat)

variable (m : (ℓ : Loc nD τ sig) → Buf (Elt Ideal) ℓ)

/-- A block of codes with each code multiplied by its 128 × 128 group's scale, `j` the block column. -/
def wideW (j : Fin 7) (w : Vec Ideal S2048x1024 .fp8e4m3) (s : Vec Ideal S16x56 .f32) : Vec Ideal S2048x1024 .bf16 :=
  fun y => (w y : EReal) * s (ValueIdx.ix2
    (⟨(y 0).val / 128, by have := (y 0).isLt; have : S2048x1024.size 0 = 2048 := rfl; omega⟩ : Fin 16)
    (⟨8 * j.val + (y 1).val / 128, by have := (y 1).isLt; have : S2048x1024.size 1 = 1024 := rfl; omega⟩ : Fin 56))

/-- A block of activation codes with each code multiplied by the scale of its row's run of 128. -/
def wideH (h : Vec Ideal S1024x2048 .fp8e4m3) (s : Vec Ideal S1024x16 .f32) : Vec Ideal S1024x2048 .bf16 :=
  fun y => (h y : EReal) * s (ValueIdx.ix2 (⟨(y 0).val, (y 0).isLt⟩ : Fin 1024)
    (⟨(y 1).val / 128, by have := (y 1).isLt; have : S1024x2048.size 1 = 2048 := rfl; omega⟩ : Fin 16))

/-- A tile of weight codes times one scale, as the kernel stores it. -/
abbrev tile (v : Elt Ideal .f32) (b : Vec Ideal S128x128 .fp8e4m3) : FVec Ideal S128x128 .bf16 :=
  shapeCast S128x128 (mulf (extf .bf16 b bitsLt_fp8e4m3_bf16)
    (truncf .bf16 (broadcast S128x128 v : FVec Ideal S128x128 .f32) bitsLt_bf16_f32)) shapeCasts_S128x128_S128x128

theorem tile_apply (v : Elt Ideal .f32) (b : Vec Ideal S128x128 .fp8e4m3) (x : S128x128.Idx) :
    tile v b x = (b x : EReal) * v := by
  unfold tile
  rw [shapeCast_self]
  rfl

/-- A run of activation codes times its column of scales, as the kernel stores it. -/
abbrev strip (v : Vec Ideal S1024x1 .f32) (b : Vec Ideal S1024x128 .fp8e4m3) : FVec Ideal S1024x128 .bf16 :=
  shapeCast S1024x128 (mulf (extf .bf16 b bitsLt_fp8e4m3_bf16)
    (truncf .bf16 (broadcastTo S1024x128 (shapeCast S1024x1 v shapeCasts_S1024x1_S1024x1) broadcasts_S1024x1_S1024x128 :
      FVec Ideal S1024x128 .f32) bitsLt_bf16_f32)) shapeCasts_S1024x128_S1024x128

theorem strip_apply (v : Vec Ideal S1024x1 .f32) (b : Vec Ideal S1024x128 .fp8e4m3) (x : S1024x128.Idx) :
    strip v b x = (b x : EReal) * v (ValueIdx.ix2 (⟨(x 0).val, (x 0).isLt⟩ : Fin 1024) (0 : Fin 1)) := by
  unfold strip
  rw [shapeCast_self, shapeCast_self]
  show (b x : EReal) * broadcastTo S1024x128 v broadcasts_S1024x1_S1024x128 x = _
  exact congrArg (fun a : EReal => (b x : EReal) * a) (broadcastTo_apply v broadcasts_S1024x1_S1024x128 x
    (ValueIdx.ix2 (⟨(x 0).val, (x 0).isLt⟩ : Fin 1024) (0 : Fin 1)) fun a => by
      match a with
      | ⟨0, _⟩ => rfl
      | ⟨1, _⟩ => rfl)

/-- One stored weight tile is the block of `wideW` under its rectangle. -/
theorem tile_piece (j : Fin 7) (w : Vec Ideal S2048x1024 .fp8e4m3) (s : Vec Ideal S16x56 .f32)
    (off : Fin 2 → ℕ) (inbs : ∀ a, off a + S1x1.size a ≤ S16x56.size a) (o : Fin 2 → ℕ)
    (inb : ∀ a, o a + S128x128.size a ≤ S2048x1024.size a) (r q : ℕ) (hr : o 0 = 128 * r) (hq : o 1 = 128 * q)
    (hoff : off = ![r, 8 * j.val + q]) (hn : 0 < S1x1.numel) (x : S128x128.Idx) :
    tile (View.ld s (Rect.unit (s := S16x56) off S1x1.size inbs) (Shape.Idx.first hn))
        (View.ld w (Rect.unit (s := S2048x1024) o S128x128.size inb)) x
      = wideW j w s ((Rect.unit (s := S2048x1024) o S128x128.size inb).emb x) := by
  rw [tile_apply]
  unfold wideW
  have hx0 : (x 0).val < 128 := (x 0).isLt
  have hx1 : (x 1).val < 128 := (x 1).isLt
  have e0 : (((Rect.unit (s := S2048x1024) o S128x128.size inb).emb x) 0).val = o 0 + (x 0).val :=
    Rect.idx_unit_val (s := S2048x1024) o S128x128.size inb x 0
  have e1 : (((Rect.unit (s := S2048x1024) o S128x128.size inb).emb x) 1).val = o 1 + (x 1).val :=
    Rect.idx_unit_val (s := S2048x1024) o S128x128.size inb x 1
  refine congrArg₂ (fun a b : EReal => a * b) rfl (View.ld_unit_apply_of _ _ _ _ _ _ fun a => ?_)
  subst hoff
  match a with
  | ⟨0, _⟩ =>
    show (((Rect.unit (s := S2048x1024) o S128x128.size inb).emb x) 0).val / 128 = r + 0
    omega
  | ⟨1, _⟩ =>
    show 8 * j.val + (((Rect.unit (s := S2048x1024) o S128x128.size inb).emb x) 1).val / 128 = 8 * j.val + q + 0
    omega

/-- `tile_piece` at the offsets the kernel computes. -/
theorem w_piece (i : grid0.Coords) (w : Vec Ideal S2048x1024 .fp8e4m3) (s : Vec Ideal S16x56 .f32)
    (c : BitVec 32) (o : Fin 2 → ℕ) (inb : ∀ a, o a + S128x128.size a ≤ S2048x1024.size a) (r q : ℕ) (hc : c = BitVec.ofNat 32 q)
    (hr : o 0 = 128 * r) (hq : o 1 = 128 * q) (hq2 : q < 8)
    (inbs : ∀ a, (![r, (Scalar.indexCast (Scalar.addi (Scalar.muli (BitVec.ofNat 32 (i 1).val) 8#32) c)).toNat] : Fin 2 → ℕ) a
      + S1x1.size a ≤ S16x56.size a) (hn : 0 < S1x1.numel) (x : S128x128.Idx) :
    tile (View.ld s (Rect.unit (s := S16x56) _ S1x1.size inbs) (Shape.Idx.first hn))
        (View.ld w (Rect.unit (s := S2048x1024) o S128x128.size inb)) x
      = wideW (i 1) w s ((Rect.unit (s := S2048x1024) o S128x128.size inb).emb x) := by
  refine tile_piece (i 1) w s _ inbs o inb r q hr hq ?_ hn x
  subst hc
  exact congrArg (fun f : Fin 2 → ℕ => (![r, f 1] : Fin 2 → ℕ)) (k0_off1_eq i ⟨q, hq2⟩)

/-- One stored strip is the block of `wideH` under its rectangle. -/
theorem h_piece (h : Vec Ideal S1024x2048 .fp8e4m3) (s : Vec Ideal S1024x16 .f32)
    (o os : Fin 2 → ℕ) (inb : ∀ a, o a + S1024x128.size a ≤ S1024x2048.size a)
    (inbs : ∀ a, os a + S1024x1.size a ≤ S1024x16.size a) (q : ℕ)
    (hos : os = ![0, q]) (h0 : o 0 = 0) (hq : o 1 = 128 * q) (x : S1024x128.Idx) :
    strip (View.ld s (Rect.unit (s := S1024x16) os S1024x1.size inbs))
        (View.ld h (Rect.unit (s := S1024x2048) o S1024x128.size inb)) x
      = wideH h s ((Rect.unit (s := S1024x2048) o S1024x128.size inb).emb x) := by
  rw [strip_apply]
  unfold wideH
  have hx1 : (x 1).val < 128 := (x 1).isLt
  have e0 : (((Rect.unit (s := S1024x2048) o S1024x128.size inb).emb x) 0).val = o 0 + (x 0).val :=
    Rect.idx_unit_val (s := S1024x2048) o S1024x128.size inb x 0
  have e1 : (((Rect.unit (s := S1024x2048) o S1024x128.size inb).emb x) 1).val = o 1 + (x 1).val :=
    Rect.idx_unit_val (s := S1024x2048) o S1024x128.size inb x 1
  subst hos
  refine congrArg₂ (fun a b : EReal => a * b) rfl (View.ld_unit_apply_of _ _ _ _ _ _ fun a => ?_)
  match a with
  | ⟨0, _⟩ =>
    show (((Rect.unit (s := S1024x2048) o S1024x128.size inb).emb x) 0).val = 0 + (x 0).val
    omega
  | ⟨1, _⟩ =>
    show (((Rect.unit (s := S1024x2048) o S1024x128.size inb).emb x) 1).val / 128 = q + 0
    omega

/-- A buffer stored piece by piece, each piece a block of `G`, reads whole as `G`. -/
theorem readCov_of_pieces {a b : ℕ} (v : View sig .tc .vmem ⟨2, ![a, b]⟩ .bf16)
    (L : List (View.Piece (Elt Ideal) ⟨2, ![a, b]⟩ .bf16)) (G : Vec Ideal ⟨2, ![a, b]⟩ .bf16)
    (inb : ∀ d, (![0, 0] : Fin 2 → ℕ) d + (![a, b] : Fin 2 → ℕ) d ≤ (⟨2, ![a, b]⟩ : Shape).size d)
    (hL : View.PiecesOf G L) (hc : ∀ y : (⟨2, ![a, b]⟩ : Shape).Idx, ∃ p ∈ L, y ∈ p.1.set) :
    v.readCov L (Rect.unit (s := ⟨2, ![a, b]⟩) ![0, 0] ![a, b] inb).toLoadRect = G := by
  rw [View.readCov_eq_canon']
  funext y
  rw [View.canon_apply_of_pieces G L hL.mem _ (hc _)]
  refine congrArg G (funext fun d => Fin.ext ?_)
  match d with
  | ⟨0, _⟩ => exact (Rect.idx_unit_val (s := ⟨2, ![a, b]⟩) ![0, 0] ![a, b] inb y 0).trans (Nat.zero_add _)
  | ⟨1, _⟩ => exact (Rect.idx_unit_val (s := ⟨2, ![a, b]⟩) ![0, 0] ![a, b] inb y 1).trans (Nat.zero_add _)

/-- The residual block plus the product of an activation block with the widened weight block. -/
abbrev sum (x : Vec Ideal S1024x1024 .bf16) (a : Vec Ideal S1024x2048 .bf16) (w : Vec Ideal S2048x1024 .bf16) :
    FVec Ideal S1024x1024 .f32 :=
  addf (extf .f32 x bitsLt_bf16_f32)
    (matmul (φ₁ := .bf16) (φ₂ := .bf16) dot_S1024x2048_S2048x1024_S1024x1024_1_0_0_1_n_n none a w (constant S1024x1024 .f32 0x00000000#32))

set_option maxHeartbeats 4000000 in
/-- What a point that refills the scratch leaves in it. -/
theorem scratch_A (c : Dev nD) (t : Fin cfg0.N) (h0 : t.val % 7 = 0) :
    (outsAt0 m c t.val t.isLt).2 = wideH (iblk m c 0 t) (iblk m c 1 t) := by
  rw [outsAt0_A m c t h0]
  dsimp only
  unfold sout0_A_0
  frame_open
  frame_out
  funext y
  refine View.canon_apply_of_pieces (wideH (iblk m c 0 t) (iblk m c 1 t)) _ (View.PiecesOf.mem ?p) y ?c
  case p =>
    iterate 16 refine ⟨fun x => h_piece _ _ _ _ _ _ _ rfl rfl rfl x, ?_⟩
    exact trivial
  case c =>
    revert y
    exact View.cover_of_tiledL _ S1024x128.size (by sl_kernel_rfl)

set_option maxHeartbeats 4000000 in
/-- What a point that refills the scratch leaves in the output block. -/
theorem outs_A (c : Dev nD) (t : Fin cfg0.N) (h0 : t.val % 7 = 0) :
    (outsAt0 m c t.val t.isLt).1 = sum (iblk m c 4 t) (wideH (iblk m c 0 t) (iblk m c 1 t))
      (wideW (grid0.coords t 1) (iblk m c 2 t) (iblk m c 3 t)) := by
  rw [outsAt0_A m c t h0]
  dsimp only
  unfold out0_A_5
  frame_open
  frame_out
  funext y
  rw [readCov_of_pieces _ _ (wideH (iblk m c 0 t) (iblk m c 1 t)) _ ?p0 ?c0,
    readCov_of_pieces _ _ (wideW (grid0.coords t 1) (iblk m c 2 t) (iblk m c 3 t)) _ ?p1 ?c1]
  case p0 =>
    iterate 16 refine ⟨fun x => h_piece _ _ _ _ _ _ _ rfl rfl rfl x, ?_⟩
    exact trivial
  case p1 =>
    iterate 128 refine ⟨fun x => w_piece _ _ _ _ _ _ _ _ rfl rfl rfl (by decide) _ _ x, ?_⟩
    exact trivial
  case c0 => exact View.cover_of_tiledL _ S1024x128.size (by sl_kernel_rfl)
  case c1 => exact View.cover_of_tiledL _ S128x128.size (by sl_kernel_rfl)
  rfl

set_option maxHeartbeats 4000000 in
/-- What any other point leaves there, over the scratch the point before left. -/
theorem outs_B (c : Dev nD) (t : Fin cfg0.N) (h0 : ¬t.val % 7 = 0) :
    (outsAt0 m c t.val t.isLt).1 = sum (iblk m c 4 t) (outsAt0 m c (t.val - 1) (Nat.lt_of_le_of_lt (Nat.sub_le _ _) t.isLt)).2
      (wideW (grid0.coords t 1) (iblk m c 2 t) (iblk m c 3 t)) := by
  rw [outsAt0_B m c t h0]
  dsimp only
  generalize (outsAt0 m c (t.val - 1) (Nat.lt_of_le_of_lt (Nat.sub_le _ _) t.isLt)).2 = xs
  unfold out0_B_5
  frame_open
  frame_out
  funext y
  rw [readCov_of_pieces _ _ (wideW (grid0.coords t 1) (iblk m c 2 t) (iblk m c 3 t)) _ ?p1 ?c1]
  case p1 =>
    iterate 128 refine ⟨fun x => w_piece _ _ _ _ _ _ _ _ rfl rfl rfl (by decide) _ _ x, ?_⟩
    exact trivial
  case c1 => exact View.cover_of_tiledL _ S128x128.size (by sl_kernel_rfl)
  exact congrArg (fun a => sum (iblk m c 4 t) a (wideW (grid0.coords t 1) (iblk m c 2 t) (iblk m c 3 t)) y)
    ((Memref.isWhole_whole cc0_scratch0).read_unread xs)

/-- Any other point leaves the scratch as it found it. -/
theorem scratch_B (c : Dev nD) (t : Fin cfg0.N) (h0 : ¬t.val % 7 = 0) :
    (outsAt0 m c t.val t.isLt).2 = (outsAt0 m c (t.val - 1) (Nat.lt_of_le_of_lt (Nat.sub_le _ _) t.isLt)).2 := by
  rw [outsAt0_B m c t h0]
  rfl

end Cert.SharedIdeal.Body

end
-- ==== Proof.SharedSpec.lean ====
/- What the shared expert's down call computes, entry by entry, over the extended reals. -/
module

public import Idealize.ShloMosaic.PureOps.Ideal.Laws
public import Idealize.ShloMosaic.Lib.ValueIdx

@[expose] public section

noncomputable section

namespace Cert.SharedDown

open Idealize.ShloMosaic

/-- Entry `(r, k)` of the activation: the code times the scale of its row's run of 128. -/
def act (h : Vec Ideal ⟨2, ![6144, 2048]⟩ .fp8e4m3) (s : Vec Ideal ⟨2, ![6144, 16]⟩ .f32)
    (r : Fin 6144) (k : Fin 2048) : EReal :=
  h (ValueIdx.ix2 r k) * s (ValueIdx.ix2 r (⟨k.val / 128, by omega⟩ : Fin 16))

/-- Entry `(k, n)` of the weights: the code times the scale of its 128 × 128 block. -/
def weight (w : Vec Ideal ⟨2, ![2048, 7168]⟩ .fp8e4m3) (s : Vec Ideal ⟨2, ![16, 56]⟩ .f32)
    (k : Fin 2048) (n : Fin 7168) : EReal :=
  w (ValueIdx.ix2 k n) * s (ValueIdx.ix2 (⟨k.val / 128, by omega⟩ : Fin 16) (⟨n.val / 128, by omega⟩ : Fin 56))

/-- Entry `(r, n)` of the result: the residual plus the activation times the weights. -/
def outAt (h : Vec Ideal ⟨2, ![6144, 2048]⟩ .fp8e4m3) (hs : Vec Ideal ⟨2, ![6144, 16]⟩ .f32)
    (w : Vec Ideal ⟨2, ![2048, 7168]⟩ .fp8e4m3) (ws : Vec Ideal ⟨2, ![16, 56]⟩ .f32)
    (x : Vec Ideal ⟨2, ![6144, 7168]⟩ .bf16) (r : Fin 6144) (n : Fin 7168) : EReal :=
  x (ValueIdx.ix2 r n) + ∑ k : Fin 2048, act h hs r k * weight w ws k n

/-- The result array. -/
def out (h : Vec Ideal ⟨2, ![6144, 2048]⟩ .fp8e4m3) (hs : Vec Ideal ⟨2, ![6144, 16]⟩ .f32)
    (w : Vec Ideal ⟨2, ![2048, 7168]⟩ .fp8e4m3) (ws : Vec Ideal ⟨2, ![16, 56]⟩ .f32)
    (x : Vec Ideal ⟨2, ![6144, 7168]⟩ .bf16) : Vec Ideal ⟨2, ![6144, 7168]⟩ .f32 :=
  fun y => outAt h hs w ws x (y 0) (y 1)

end Cert.SharedDown

end
-- ==== Proof.SharedArray.lean ====
/- The shared call's result array: each point's blocks placed in the arguments, and the points together. -/
module

public import proofs.«01_k».proof.Proof.SharedBody
public import proofs.«01_k».proof.Proof.SharedSpec
public import Idealize.ShloMosaic.Lib.MatmulPlain
public import Idealize.ShloMosaic.Lib.Pipeline.Covers

@[expose] public section

set_option maxRecDepth 16384

noncomputable section

namespace Cert.SharedIdeal.Body

open Cert.SharedIdeal Cert.SharedIdeal.Gen Idealize.ShloMosaic Idealize.ShloMosaic.TcCoe Idealize.SL.Sem
open Idealize.ShloMosaic.Pipeline (Dat)
open Cert.SharedDown

variable (m : (ℓ : Loc nD τ sig) → Buf (Elt Ideal) ℓ) (ρ : Dev nD → PrngReg)

/-- Which block each window holds at a point: the activation codes' row block, -/
theorem idx0 : ∀ t : Fin cfg0.N, win0_0.index t = ![t.val / 7, 0] :=
  (by decide +kernel : ∀ t : Fin grid0.N, _)
/-- the activation scales' row block, -/
theorem idx1 : ∀ t : Fin cfg0.N, win0_1.index t = ![t.val / 7, 0] :=
  (by decide +kernel : ∀ t : Fin grid0.N, _)
/-- the weight codes' column block, -/
theorem idx2 : ∀ t : Fin cfg0.N, win0_2.index t = ![0, t.val % 7] :=
  (by decide +kernel : ∀ t : Fin grid0.N, _)
/-- all of the weight scales, -/
theorem idx3 : ∀ t : Fin cfg0.N, win0_3.index t = ![0, 0] :=
  (by decide +kernel : ∀ t : Fin grid0.N, _)
/-- the residual's block, -/
theorem idx4 : ∀ t : Fin cfg0.N, win0_4.index t = ![t.val / 7, t.val % 7] :=
  (by decide +kernel : ∀ t : Fin grid0.N, _)
/-- and the result's block. -/
theorem idx5 : ∀ t : Fin cfg0.N, win0_5.index t = ![t.val / 7, t.val % 7] :=
  (by decide +kernel : ∀ t : Fin grid0.N, _)

/-- The second grid coordinate of a point. -/
theorem coord1 : ∀ t : Fin cfg0.N, (grid0.coords t 1).val = t.val % 7 :=
  (by decide +kernel : ∀ t : Fin grid0.N, _)

/-- The grid has 42 points. -/
theorem lt42 (t : Fin cfg0.N) : t.val < 42 := lt_of_lt_of_eq t.isLt N_0

/-- The output blocks cover the result. -/
theorem covers : (cfg0.win 5).Covers :=
  (cfg0.win 5).covers_of_index_surj rfl (by decide) fun β => by
    have b0 : (β (0 : Fin 2)).val < 6 := (β (0 : Fin 2)).isLt
    have b1 : (β (1 : Fin 2)).val < 7 := (β (1 : Fin 2)).isLt
    refine ⟨⟨7 * (β (0 : Fin 2)).val + (β (1 : Fin 2)).val, lt_of_lt_of_eq (by omega) N_0.symm⟩, fun a => ?_⟩
    show win0_5.index _ a = _
    rw [idx5]
    match a with
    | ⟨0, _⟩ => show (7 * (β (0 : Fin 2)).val + (β (1 : Fin 2)).val) / 7 = (β (0 : Fin 2)).val; omega
    | ⟨1, _⟩ => show (7 * (β (0 : Fin 2)).val + (β (1 : Fin 2)).val) % 7 = (β (1 : Fin 2)).val; omega

/-- The widened activation block's entries. -/
theorem wideH_at (c : Dev nD) (t : Fin cfg0.N) (r : Fin 1024) (k : Fin 2048) :
    wideH (iblk m c 0 t) (iblk m c 1 t) (ValueIdx.ix2 r k)
      = act (m ((c : Thread nD τ).loc main_arg0)) (m ((c : Thread nD τ).loc main_arg1))
        ⟨1024 * (t.val / 7) + r.val, by have := lt42 t; omega⟩ k := by
  unfold wideH act
  have e0 : ((ValueIdx.ix2 r k : S1024x2048.Idx) 0).val = r.val := rfl
  have e1 : ((ValueIdx.ix2 r k : S1024x2048.Idx) 1).val = k.val := rfl
  refine congrArg₂ (fun a b : EReal => a * b) ?_ ?_
  · blk_ext! [iblk, V, idx0 t] <;> omega
  · blk_ext! [iblk, V, idx1 t] <;> omega

/-- The widened weight block's entries. -/
theorem wideW_at (c : Dev nD) (t : Fin cfg0.N) (k : Fin 2048) (q : Fin 1024) :
    wideW (grid0.coords t 1) (iblk m c 2 t) (iblk m c 3 t) (ValueIdx.ix2 k q)
      = weight (m ((c : Thread nD τ).loc main_arg2)) (m ((c : Thread nD τ).loc main_arg3)) k
        ⟨1024 * (t.val % 7) + q.val, by omega⟩ := by
  unfold wideW weight
  have e0 : ((ValueIdx.ix2 k q : S2048x1024.Idx) 0).val = k.val := rfl
  have e1 : ((ValueIdx.ix2 k q : S2048x1024.Idx) 1).val = q.val := rfl
  have ec := coord1 t
  refine congrArg₂ (fun a b : EReal => a * b) ?_ ?_
  · blk_ext! [iblk, V, idx2 t] <;> omega
  · blk_ext! [iblk, V, idx3 t] <;> omega

/-- The residual block's entries. -/
theorem blk4 (c : Dev nD) (t : Fin cfg0.N) (r q : Fin 1024) :
    iblk m c 4 t (ValueIdx.ix2 r q) = m ((c : Thread nD τ).loc main_arg4)
      (ValueIdx.ix2 (⟨1024 * (t.val / 7) + r.val, by have := lt42 t; omega⟩ : Fin 6144)
        (⟨1024 * (t.val % 7) + q.val, by omega⟩ : Fin 7168)) := by
  have e0 : ((ValueIdx.ix2 r q : S1024x1024.Idx) 0).val = r.val := rfl
  have e1 : ((ValueIdx.ix2 r q : S1024x1024.Idx) 1).val = q.val := rfl
  blk_ext! [iblk, V, idx4 t] <;> omega

/-- After every point the scratch holds its row block's widened activation: filled at the block's first point, kept at the others. -/
theorem scratch_at (c : Dev nD) : ∀ (n : ℕ) (hn : n < cfg0.N) (r : Fin 1024) (k : Fin 2048),
    (outsAt0 m c n hn).2 (ValueIdx.ix2 r k)
      = act (m ((c : Thread nD τ).loc main_arg0)) (m ((c : Thread nD τ).loc main_arg1))
        ⟨1024 * (n / 7) + r.val, by have := lt42 ⟨n, hn⟩; simp only at this; omega⟩ k := by
  intro n
  induction n with
  | zero =>
    intro hn r k
    rw [scratch_A m c ⟨0, hn⟩ rfl]
    exact wideH_at m c ⟨0, hn⟩ r k
  | succ n ih =>
    intro hn r k
    by_cases h0 : (n + 1) % 7 = 0
    · rw [scratch_A m c ⟨n + 1, hn⟩ h0]
      exact wideH_at m c ⟨n + 1, hn⟩ r k
    · rw [scratch_B m c ⟨n + 1, hn⟩ h0]
      refine (ih (Nat.lt_of_succ_lt hn) r k).trans (congrArg (fun i => act _ _ i k) (Fin.ext ?_))
      show 1024 * (n / 7) + r.val = 1024 * ((n + 1) / 7) + r.val
      omega

/-- An entry of the sum the body stores. -/
theorem sum_apply (x : Vec Ideal S1024x1024 .bf16) (a : Vec Ideal S1024x2048 .bf16) (w : Vec Ideal S2048x1024 .bf16) (r q : Fin 1024) :
    sum x a w (ValueIdx.ix2 r q) = x (ValueIdx.ix2 r q) + ∑ k : Fin 2048, a (ValueIdx.ix2 r k) * w (ValueIdx.ix2 k q) := by
  refine congrArg (fun b : EReal => x (ValueIdx.ix2 r q) + b) ((Ideal.matmul_plain_apply (φ₁ := .bf16) (φ₂ := .bf16) none a w
    (constant S1024x1024 .f32 0x00000000#32) r q).trans ?_)
  show Ideal.ofBits .f32 0x00000000#32 + _ = _
  rw [Ideal.ofBits_zero_f32, zero_add]

/-- What a point leaves in the output block, entry by entry. -/
theorem outs_at (c : Dev nD) (t : Fin cfg0.N) (r q : Fin 1024) :
    (outsAt0 m c t.val t.isLt).1 (ValueIdx.ix2 r q)
      = outAt (m ((c : Thread nD τ).loc main_arg0)) (m ((c : Thread nD τ).loc main_arg1)) (m ((c : Thread nD τ).loc main_arg2))
        (m ((c : Thread nD τ).loc main_arg3)) (m ((c : Thread nD τ).loc main_arg4))
        ⟨1024 * (t.val / 7) + r.val, by have := lt42 t; omega⟩ ⟨1024 * (t.val % 7) + q.val, by omega⟩ := by
  unfold outAt
  by_cases h0 : t.val % 7 = 0
  · rw [outs_A m c t h0, sum_apply]
    exact congrArg₂ (fun a b : EReal => a + b) (blk4 m c t r q) (Finset.sum_congr rfl fun k _ =>
      congrArg₂ (fun a b : EReal => a * b) (wideH_at m c t r k) (wideW_at m c t k q))
  · rw [outs_B m c t h0, ← scratch_B m c t h0, sum_apply]
    exact congrArg₂ (fun a b : EReal => a + b) (blk4 m c t r q) (Finset.sum_congr rfl fun k _ =>
      congrArg₂ (fun a b : EReal => a * b) (scratch_at m c t.val t.isLt r k) (wideW_at m c t k q))

/-- The result array after the run. -/
theorem final (c : Dev nD) : (dats m 0 c).arrAt 5 cfg0.N
    = out (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ covers fun t hf y => ?_
  blk_simp
  rw [after0_5]
  have hy0 : (y 0).val < 1024 := (y 0).isLt
  have hy1 : (y 1).val < 1024 := (y 1).isLt
  have ht := lt42 t
  have hi : ((cfg0.win 5).blk t).view.emb y = ValueIdx.ix2 (⟨1024 * (t.val / 7) + (y 0).val, by omega⟩ : Fin 6144)
      (⟨1024 * (t.val % 7) + (y 1).val, by omega⟩ : Fin 7168) := by
    blk_ext [idx5 t]
  have hyy : y = ValueIdx.ix2 (⟨(y 0).val, hy0⟩ : Fin 1024) (⟨(y 1).val, hy1⟩ : Fin 1024) := by
    funext a
    match a with
    | ⟨0, _⟩ => rfl
    | ⟨1, _⟩ => rfl
  rw [show ((win0_5.blk t).view.emb y) = _ from hi]
  obtain ⟨r, q, rfl⟩ : ∃ (r q : Fin 1024), y = ValueIdx.ix2 r q := ⟨_, _, hyy⟩
  exact outs_at m c t r q

end Cert.SharedIdeal.Body

end
-- ==== Proof.SharedRef.lean ====
/- The shared reference's one payload, read at an entry. -/
module

public import proofs.«01_k».proof.Proof.Gen.SharedReferenceIdeal.Value
public import proofs.«01_k».proof.Proof.SharedSpec
public import Idealize.ShloMosaic.Lib.MatmulPlain
public import Idealize.ShloMosaic.Lib.Pipeline.ValueKit

@[expose] public section

set_option maxRecDepth 16384

noncomputable section

namespace Cert.SharedReferenceIdeal.Body

open Cert.SharedReferenceIdeal Cert.SharedReferenceIdeal.Gen Idealize.ShloMosaic Idealize.ShloMosaic.TcCoe Idealize.SL.Sem
open Cert.SharedDown

/-- The reference's widened activation: split into runs of 128, scaled run by run, joined again. -/
abbrev wideH (h : Vec Ideal S6144x2048 .fp8e4m3) (s : Vec Ideal S6144x16 .f32) : FVec Ideal S6144x2048 .bf16 :=
  shapeCast S6144x2048
    (mulf (shapeCast S6144x16x128 (extf .bf16 h bitsLt_fp8e4m3_bf16 : FVec Ideal S6144x2048 .bf16) shapeCasts_S6144x2048_S6144x16x128)
      (broadcastTo S6144x16x128 (shapeCast S6144x16x1 (truncf .bf16 s bitsLt_bf16_f32 : FVec Ideal S6144x16 .bf16) shapeCasts_S6144x16_S6144x16x1)
        broadcasts_S6144x16x1_S6144x16x128))
    shapeCasts_S6144x16x128_S6144x2048

theorem wideH_apply (h : Vec Ideal S6144x2048 .fp8e4m3) (s : Vec Ideal S6144x16 .f32) (r : Fin 6144) (k : Fin 2048) :
    wideH h s (ValueIdx.ix2 r k) = act h s r k := by
  unfold wideH
  have hk := Nat.div_add_mod k.val 128
  have ek := Nat.mod_lt k.val (by decide : 0 < 128)
  let i3 : S6144x16x128.Idx := ValueIdx.ix3 r (⟨k.val / 128, by omega⟩ : Fin 16) (⟨k.val % 128, ek⟩ : Fin 128)
  rw [shapeCast_apply _ _ (ValueIdx.ix2 r k) i3 (by
    rw [Shape.rowMajor_val_two, Shape.rowMajor_val_three]
    show (r.val * 16 + k.val / 128) * 128 + k.val % 128 = r.val * 2048 + k.val
    omega)]
  unfold act
  refine congrArg₂ (fun a b : EReal => a * b) ?_ ?_
  · exact shapeCast_apply _ _ i3 (ValueIdx.ix2 r k) (by
      rw [Shape.rowMajor_val_two, Shape.rowMajor_val_three]
      show r.val * 2048 + k.val = (r.val * 16 + k.val / 128) * 128 + k.val % 128
      omega)
  · refine (broadcastTo_apply _ _ i3 (ValueIdx.ix3 r (⟨k.val / 128, by omega⟩ : Fin 16) (0 : Fin 1)) ?_).trans ?_
    · intro b
      match b with
      | ⟨0, _⟩ => rfl
      | ⟨1, _⟩ => rfl
      | ⟨2, _⟩ => rfl
    · exact shapeCast_apply _ _ _ (ValueIdx.ix2 r (⟨k.val / 128, by omega⟩ : Fin 16)) (by
        rw [Shape.rowMajor_val_two, Shape.rowMajor_val_three]
        show r.val * 16 + k.val / 128 = (r.val * 16 + k.val / 128) * 1 + 0
        omega)

/-- The reference's widened weights: split into 128 × 128 blocks, scaled block by block, joined again. -/
abbrev wideW (w : Vec Ideal S2048x7168 .fp8e4m3) (s : Vec Ideal S16x56 .f32) : FVec Ideal S2048x7168 .bf16 :=
  shapeCast S2048x7168
    (mulf (shapeCast S16x128x56x128 (extf .bf16 w bitsLt_fp8e4m3_bf16 : FVec Ideal S2048x7168 .bf16) shapeCasts_S2048x7168_S16x128x56x128)
      (broadcastTo S16x128x56x128 (shapeCast S16x1x56x1 (truncf .bf16 s bitsLt_bf16_f32 : FVec Ideal S16x56 .bf16) shapeCasts_S16x56_S16x1x56x1)
        broadcasts_S16x1x56x1_S16x128x56x128))
    shapeCasts_S16x128x56x128_S2048x7168

theorem wideW_apply (w : Vec Ideal S2048x7168 .fp8e4m3) (s : Vec Ideal S16x56 .f32) (k : Fin 2048) (n : Fin 7168) :
    wideW w s (ValueIdx.ix2 k n) = weight w s k n := by
  unfold wideW
  have hk := Nat.div_add_mod k.val 128
  have hn := Nat.div_add_mod n.val 128
  have ek := Nat.mod_lt k.val (by decide : 0 < 128)
  have en := Nat.mod_lt n.val (by decide : 0 < 128)
  let i4 : S16x128x56x128.Idx := ValueIdx.ix4 (⟨k.val / 128, by omega⟩ : Fin 16) (⟨k.val % 128, ek⟩ : Fin 128)
    (⟨n.val / 128, by omega⟩ : Fin 56) (⟨n.val % 128, en⟩ : Fin 128)
  rw [shapeCast_apply _ _ (ValueIdx.ix2 k n) i4 (by
    rw [Shape.rowMajor_val_two, Shape.rowMajor_val_four]
    show ((k.val / 128 * 128 + k.val % 128) * 56 + n.val / 128) * 128 + n.val % 128 = k.val * 7168 + n.val
    omega)]
  unfold weight
  refine congrArg₂ (fun a b : EReal => a * b) ?_ ?_
  · exact shapeCast_apply _ _ i4 (ValueIdx.ix2 k n) (by
      rw [Shape.rowMajor_val_two, Shape.rowMajor_val_four]
      show k.val * 7168 + n.val = ((k.val / 128 * 128 + k.val % 128) * 56 + n.val / 128) * 128 + n.val % 128
      omega)
  · refine (broadcastTo_apply _ _ i4 (ValueIdx.ix4 (⟨k.val / 128, by omega⟩ : Fin 16) (0 : Fin 1) (⟨n.val / 128, by omega⟩ : Fin 56) (0 : Fin 1)) ?_).trans ?_
    · intro b
      match b with
      | ⟨0, _⟩ => rfl
      | ⟨1, _⟩ => rfl
      | ⟨2, _⟩ => rfl
      | ⟨3, _⟩ => rfl
    · exact shapeCast_apply _ _ _ (ValueIdx.ix2 (⟨k.val / 128, by omega⟩ : Fin 16) (⟨n.val / 128, by omega⟩ : Fin 56)) (by
        rw [Shape.rowMajor_val_two, Shape.rowMajor_val_four]
        show k.val / 128 * 56 + n.val / 128 = ((k.val / 128 * 1 + 0) * 56 + n.val / 128) * 1 + 0
        omega)

/-- The reference's payload is the result array. -/
theorem pay_eq (h : Vec Ideal S6144x2048 .fp8e4m3) (hs : Vec Ideal S6144x16 .f32) (w : Vec Ideal S2048x7168 .fp8e4m3)
    (ws : Vec Ideal S16x56 .f32) (x : Vec Ideal S6144x7168 .bf16) : k0_pay1 h hs w ws x = out h hs w ws x := by
  funext y
  obtain ⟨r, n, rfl⟩ : ∃ (r : Fin 6144) (n : Fin 7168), y = ValueIdx.ix2 r n := ⟨y 0, y 1, by
    funext b
    match b with
    | ⟨0, _⟩ => rfl
    | ⟨1, _⟩ => rfl⟩
  have hm : matmul (φ₁ := .bf16) (φ₂ := .bf16) dot_S6144x2048_S2048x7168_S6144x7168_1_0_0_1_n_n none (wideH h hs) (wideW w ws)
      (constant S6144x7168 .f32 0x00000000#32) (ValueIdx.ix2 r n) = ∑ k : Fin 2048, act h hs r k * weight w ws k n := by
    refine (Ideal.matmul_plain_apply (φ₁ := .bf16) (φ₂ := .bf16) none (wideH h hs) (wideW w ws)
      (constant S6144x7168 .f32 0x00000000#32) r n).trans ?_
    show Ideal.ofBits .f32 0x00000000#32 + _ = _
    rw [Ideal.ofBits_zero_f32, zero_add]
    exact Finset.sum_congr rfl fun k _ => congrArg₂ (fun a b : EReal => a * b) (wideH_apply h hs r k) (wideW_apply w ws k n)
  exact congrArg (fun b : EReal => x (ValueIdx.ix2 r n) + b) hm

end Cert.SharedReferenceIdeal.Body

end
-- ==== Proof.lean ====
/- The certificate: each program's generated frame, and the value claim from the kernel's and the reference's runs. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Gen.Shared
public import proofs.«01_k».proof.Proof.Gen.Shared.Skeleton
public import proofs.«01_k».proof.Proof.Gen.Shared.Launch
public import proofs.«01_k».proof.Proof.Gen.Shared.Points
public import proofs.«01_k».proof.Proof.Gen.Shared.Frame
public import proofs.«01_k».proof.Proof.Gen.SharedIdeal
public import proofs.«01_k».proof.Proof.Gen.SharedIdeal.Skeleton
public import proofs.«01_k».proof.Proof.Gen.SharedIdeal.Launch
public import proofs.«01_k».proof.Proof.Gen.SharedIdeal.Points
public import proofs.«01_k».proof.Proof.Gen.SharedIdeal.Frame
public import proofs.«01_k».proof.Proof.Gen.SharedIdeal.Value
public import proofs.«01_k».proof.Proof.Gen.SharedReferenceIdeal
public import proofs.«01_k».proof.Proof.Gen.SharedReferenceIdeal.Skeleton
public import proofs.«01_k».proof.Proof.Gen.SharedReferenceIdeal.Launch
public import proofs.«01_k».proof.Proof.Gen.SharedReferenceIdeal.Points
public import proofs.«01_k».proof.Proof.Gen.SharedReferenceIdeal.Frame
public import proofs.«01_k».proof.Proof.Gen.SharedReferenceIdeal.Value
public import proofs.«01_k».proof.Proof.Array
public import proofs.«01_k».proof.Proof.Ref
public import proofs.«01_k».proof.Proof.SharedArray
public import proofs.«01_k».proof.Proof.SharedRef
public import Idealize.ShloMosaic.Adequacy
public import Idealize.ShloMosaic.Init

@[expose] public section

noncomputable section

namespace Cert.Proof

open Idealize.ShloMosaic Idealize.SL.Sem

/-- Gate-up: kernel and reference both end at `Cert.GateUp.out` of the arguments. -/
theorem gate_up_value : Cert.algebraic_KernelIdeal_ReferenceIdeal (hKernelIdeal := Cert.KernelIdeal.Gen.facts)
    (hReferenceIdeal := Cert.ReferenceIdeal.Gen.facts) := by
  intro m g m' g' _ hargs
  refine ⟨fun c => Cert.GateUp.out (m ((c.tc : Thread _ _).loc Cert.KernelIdeal.main_arg0))
    (m ((c.tc : Thread _ _).loc Cert.KernelIdeal.main_arg1)) (m ((c.tc : Thread _ _).loc Cert.KernelIdeal.main_arg2)), ?_, ?_⟩
  · exact (θ_run (Cert.KernelIdeal.defs (F := Ideal)) _ _).mono
      (fun r h c => ⟨(h c).1.trans (Cert.KernelIdeal.Body.final m c), (h c).2⟩) (Cert.KernelIdeal.Value.run_blocks (F := Ideal) m g)
  · refine (θ_run (Cert.ReferenceIdeal.defs (F := Ideal)) _ _).mono (fun r h c => ?_)
      (Cert.ReferenceIdeal.Value.run (F := Ideal) m' g')
    refine ⟨(h c).1.trans ?_, (h c).2⟩
    rw [(hargs c).1, (hargs c).2.1, (hargs c).2.2]
    exact Cert.ReferenceIdeal.Body.pay_eq _ _ _

/-- The shared down product: kernel and reference both end at `Cert.SharedDown.out` of the arguments. -/
theorem shared_value : Cert.algebraic_SharedIdeal_SharedReferenceIdeal (hSharedIdeal := Cert.SharedIdeal.Gen.facts)
    (hSharedReferenceIdeal := Cert.SharedReferenceIdeal.Gen.facts) := by
  intro m g m' g' _ hargs
  refine ⟨fun c => Cert.SharedDown.out (m ((c.tc : Thread _ _).loc Cert.SharedIdeal.main_arg0))
    (m ((c.tc : Thread _ _).loc Cert.SharedIdeal.main_arg1)) (m ((c.tc : Thread _ _).loc Cert.SharedIdeal.main_arg2))
    (m ((c.tc : Thread _ _).loc Cert.SharedIdeal.main_arg3)) (m ((c.tc : Thread _ _).loc Cert.SharedIdeal.main_arg4)), ?_, ?_⟩
  · exact (θ_run (Cert.SharedIdeal.defs (F := Ideal)) _ _).mono
      (fun r h c => ⟨(h c).1.trans (Cert.SharedIdeal.Body.final m c), (h c).2⟩) (Cert.SharedIdeal.Value.run_blocks (F := Ideal) m g)
  · refine (θ_run (Cert.SharedReferenceIdeal.defs (F := Ideal)) _ _).mono (fun r h c => ?_)
      (Cert.SharedReferenceIdeal.Value.run (F := Ideal) m' g')
    refine ⟨(h c).1.trans ?_, (h c).2⟩
    rw [(hargs c).1, (hargs c).2.1, (hargs c).2.2.1, (hargs c).2.2.2.1, (hargs c).2.2.2.2]
    exact Cert.SharedReferenceIdeal.Body.pay_eq _ _ _ _ _

theorem claim : Cert.Claim := ⟨Cert.Kernel.Gen.facts, Cert.KernelIdeal.Gen.facts, Cert.ReferenceIdeal.Gen.facts,
  Cert.Shared.Gen.facts, Cert.SharedIdeal.Gen.facts, Cert.SharedReferenceIdeal.Gen.facts,
  fun m ρ _ => Cert.Kernel.Gen.frame m ρ, fun m ρ _ => Cert.KernelIdeal.Gen.frame m ρ,
  fun m ρ _ => Cert.ReferenceIdeal.Gen.frame m ρ, fun m ρ _ => Cert.Shared.Gen.frame m ρ,
  fun m ρ _ => Cert.SharedIdeal.Gen.frame m ρ, fun m ρ _ => Cert.SharedReferenceIdeal.Gen.frame m ρ,
  trivial, gate_up_value, trivial, shared_value⟩

end Cert.Proof

end
